-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S256x4096 : Shape := ⟨2, ![256, 4096]⟩
abbrev S256x128 : Shape := ⟨2, ![256, 128]⟩
abbrev S2 : Shape := ⟨1, ![2]⟩
abbrev S_ : Shape := ⟨0, ![]⟩
abbrev S64x512 : Shape := ⟨2, ![64, 512]⟩
abbrev S64x4096 : Shape := ⟨2, ![64, 4096]⟩
abbrev S64 : Shape := ⟨1, ![64]⟩
abbrev S64x1 : Shape := ⟨2, ![64, 1]⟩
abbrev S64x128 : Shape := ⟨2, ![64, 128]⟩
abbrev S1 : Shape := ⟨1, ![1]⟩
abbrev S32x4096 : Shape := ⟨2, ![32, 4096]⟩
abbrev S256x1 : Shape := ⟨2, ![256, 1]⟩
abbrev S32x2048 : Shape := ⟨2, ![32, 2048]⟩
abbrev S32x1 : Shape := ⟨2, ![32, 1]⟩

abbrev nBuf : Space → Nat
  | .hbm => 3
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | .local _ .vmem, ⟨3, _⟩ => ⟨S256x4096, .bf16⟩
  | .local _ .vmem, ⟨4, _⟩ => ⟨S256x4096, .bf16⟩
  | .local _ .vmem, ⟨5, _⟩ => ⟨S256x512, .bf16⟩
  | .local _ .vmem, ⟨6, _⟩ => ⟨S512x4096, .bf16⟩
  | .local _ .vmem, ⟨7, _⟩ => ⟨S256x128, .f32⟩
  | .local _ .vmem, ⟨8, _⟩ => ⟨S256x128, .f32⟩
  | .local _ .vmem, ⟨9, _⟩ => ⟨S256x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_16 : BitVec 32 := 2#32
  let v27 : BitVec 32 := Scalar.muli v9 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_off1 (d0 : Dev nD) (c0_i32_35 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v55 : BitVec 32 := Scalar.addi v13 c0_i32_35
  let c4_i32_36 : BitVec 32 := 4#32
  let v56 : BitVec 32 := Scalar.remsi v55 c4_i32_36
  let c64_i32 : BitVec 32 := 64#32
  let v57 : BitVec 32 := Scalar.muli v56 c64_i32
  let v58 : Index := Scalar.indexCast v57
  let c0_37 : Index := 0#32
  ![v58.toNat, 0]
def k0_off2 (d0 : Dev nD) (c0_i32_35 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v55 : BitVec 32 := Scalar.addi v13 c0_i32_35
  let c4_i32_36 : BitVec 32 := 4#32
  let v56 : BitVec 32 := Scalar.remsi v55 c4_i32_36
  let c64_i32 : BitVec 32 := 64#32
  let v57 : BitVec 32 := Scalar.muli v56 c64_i32
  let v64 : Index := Scalar.indexCast v57
  let c0_40 : Index := 0#32
  ![v64.toNat, 0]
def k0_off3 (d0 : Dev nD) (c0_i32_35 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let v55 : BitVec 32 := Scalar.addi v13 c0_i32_35
  let c4_i32_36 : BitVec 32 := 4#32
  let v56 : BitVec 32 := Scalar.remsi v55 c4_i32_36
  let c64_i32 : BitVec 32 := 64#32
  let v57 : BitVec 32 := Scalar.muli v56 c64_i32
  let v72 : Index := Scalar.indexCast v57
  let c0_42 : Index := 0#32
  ![v72.toNat, 0]
def k0_off4 (d0 : Dev nD) (c0_i32_46 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c64_i32_45 : BitVec 32 := 64#32
  let v78 : BitVec 32 := Scalar.muli v13 c64_i32_45
  let v79 : BitVec 32 := Scalar.addi v78 c0_i32_46
  let c0_i32_53 : BitVec 32 := 0#32
  ![v79.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v80 : BitVec 32 := Scalar.muli v2 c4_i32_49
  let v81 : BitVec 32 := Scalar.addi c0_i32_50 v80
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_51 : BitVec 32 := 2#32
  let v82 : BitVec 32 := Scalar.muli v9 c2_i32_51
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v84 : BitVec 32 := Scalar.muli v8 c1_i32_52
  let v85 : BitVec 32 := Scalar.addi v83 v84
  v85.toNat
def k0_dev5 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_60 : BitVec 32 := 4#32
  let v96 : BitVec 32 := Scalar.muli v2 c4_i32_60
  let v97 : BitVec 32 := Scalar.addi c0_i32_61 v96
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_62 : BitVec 32 := 2#32
  let v98 : BitVec 32 := Scalar.muli v9 c2_i32_62
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v100 : BitVec 32 := Scalar.muli v8 c1_i32_63
  let v101 : BitVec 32 := Scalar.addi v99 v100
  v101.toNat
def k0_dev6 (d0 : Dev nD) : Nat :=
  let c0_i32_97 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_96 : BitVec 32 := 4#32
  let v171 : BitVec 32 := Scalar.muli v2 c4_i32_96
  let v172 : BitVec 32 := Scalar.addi c0_i32_97 v171
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_98 : BitVec 32 := 2#32
  let v173 : BitVec 32 := Scalar.muli v9 c2_i32_98
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_99 : BitVec 32 := 1#32
  let v175 : BitVec 32 := Scalar.muli v8 c1_i32_99
  let v176 : BitVec 32 := Scalar.addi v174 v175
  v176.toNat
def k0_dev7 (d0 : Dev nD) : Nat :=
  let c0_i32_119 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_118 : BitVec 32 := 4#32
  let v195 : BitVec 32 := Scalar.muli v10 c4_i32_118
  let v196 : BitVec 32 := Scalar.addi c0_i32_119 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_120 : BitVec 32 := 2#32
  let v197 : BitVec 32 := Scalar.muli v5 c2_i32_120
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_121 : BitVec 32 := 1#32
  let v199 : BitVec 32 := Scalar.muli v8 c1_i32_121
  let v200 : BitVec 32 := Scalar.addi v198 v199
  v200.toNat
def k0_dev8 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v211 : BitVec 32 := Scalar.muli v2 c4_i32_130
  let v212 : BitVec 32 := Scalar.addi c0_i32_131 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v213 : BitVec 32 := Scalar.muli v5 c2_i32_132
  let v214 : BitVec 32 := Scalar.addi v212 v213
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_133 : BitVec 32 := 1#32
  let v215 : BitVec 32 := Scalar.muli v11 c1_i32_133
  let v216 : BitVec 32 := Scalar.addi v214 v215
  v216.toNat
def k0_dev9 (d0 : Dev nD) : Nat :=
  let c0_i32_155 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_154 : BitVec 32 := 4#32
  let v241 : BitVec 32 := Scalar.muli v10 c4_i32_154
  let v242 : BitVec 32 := Scalar.addi c0_i32_155 v241
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v243 : BitVec 32 := Scalar.muli v5 c2_i32_156
  let v244 : BitVec 32 := Scalar.addi v242 v243
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_157 : BitVec 32 := 1#32
  let v245 : BitVec 32 := Scalar.muli v8 c1_i32_157
  let v246 : BitVec 32 := Scalar.addi v244 v245
  v246.toNat
def k0_dev10 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v257 : BitVec 32 := Scalar.muli v2 c4_i32_166
  let v258 : BitVec 32 := Scalar.addi c0_i32_167 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v259 : BitVec 32 := Scalar.muli v5 c2_i32_168
  let v260 : BitVec 32 := Scalar.addi v258 v259
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_169 : BitVec 32 := 1#32
  let v261 : BitVec 32 := Scalar.muli v11 c1_i32_169
  let v262 : BitVec 32 := Scalar.addi v260 v261
  v262.toNat
def k0_off5 (d0 : Dev nD) : Fin 2 → Nat :=
  let c0_187 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c4096_i32 : BitVec 32 := 4096#32
  let v285 : BitVec 32 := Scalar.muli v5 c4096_i32
  let v292 : Index := Scalar.indexCast v285
  ![0, v292.toNat]
def k0_off6 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c64_i32_188 : BitVec 32 := 64#32
  let v294 : BitVec 32 := Scalar.muli v13 c64_i32_188
  let v295 : Index := Scalar.indexCast v294
  let c0_189 : Index := 0#32
  ![v295.toNat, 0]
def k0_off7 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c64_i32_190 : BitVec 32 := 64#32
  let v298 : BitVec 32 := Scalar.muli v13 c64_i32_190
  let v299 : Index := Scalar.indexCast v298
  let c0_191 : Index := 0#32
  ![v299.toNat, 0]
def k0_off8 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c64_i32_192 : BitVec 32 := 64#32
  let v303 : BitVec 32 := Scalar.muli v13 c64_i32_192
  let v304 : Index := Scalar.indexCast v303
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v286 : BitVec 32 := Scalar.subi c1_i32_183 v5
  let c4096_i32_184 : BitVec 32 := 4096#32
  let v287 : BitVec 32 := Scalar.muli v286 c4096_i32_184
  let v305 : Index := Scalar.indexCast v287
  ![v304.toNat, v305.toNat]
def k0_off9 (d0 : Dev nD) (c0_i32_196 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c64_i32_195 : BitVec 32 := 64#32
  let v309 : BitVec 32 := Scalar.muli v16 c64_i32_195
  let v310 : BitVec 32 := Scalar.addi v309 c0_i32_196
  let c0_i32_203 : BitVec 32 := 0#32
  ![v310.toNat, 0]
def k0_off10 (d0 : Dev nD) (c0_i32_208 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c64_i32_207 : BitVec 32 := 64#32
  let v323 : BitVec 32 := Scalar.muli v16 c64_i32_207
  let v324 : BitVec 32 := Scalar.addi v323 c0_i32_208
  let c2048_i32 : BitVec 32 := 2048#32
  ![v324.toNat, 2048]
def k0_dev11 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v325 : BitVec 32 := Scalar.muli v2 c4_i32_211
  let v326 : BitVec 32 := Scalar.addi c0_i32_212 v325
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v327 : BitVec 32 := Scalar.muli v5 c2_i32_213
  let v328 : BitVec 32 := Scalar.addi v326 v327
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_214 : BitVec 32 := 1#32
  let v329 : BitVec 32 := Scalar.muli v11 c1_i32_214
  let v330 : BitVec 32 := Scalar.addi v328 v329
  v330.toNat
def k0_off11 (d0 : Dev nD) (c0_i32_217 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c64_i32_216 : BitVec 32 := 64#32
  let v337 : BitVec 32 := Scalar.muli v16 c64_i32_216
  let v338 : BitVec 32 := Scalar.addi v337 c0_i32_217
  let v339 : Index := Scalar.indexCast v338
  let c0_218 : Index := 0#32
  ![v339.toNat, 0]
def k0_off12 (d0 : Dev nD) (c0_i32_220 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c64_i32_219 : BitVec 32 := 64#32
  let v342 : BitVec 32 := Scalar.muli v16 c64_i32_219
  let v343 : BitVec 32 := Scalar.addi v342 c0_i32_220
  let v344 : Index := Scalar.indexCast v343
  let c0_221 : Index := 0#32
  ![v344.toNat, 0]
def k0_off13 (d0 : Dev nD) (c0_i32_223 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c64_i32_222 : BitVec 32 := 64#32
  let v348 : BitVec 32 := Scalar.muli v16 c64_i32_222
  let v349 : BitVec 32 := Scalar.addi v348 c0_i32_223
  let v350 : Index := Scalar.indexCast v349
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v286 : BitVec 32 := Scalar.subi c1_i32_183 v5
  let c4096_i32_184 : BitVec 32 := 4096#32
  let v287 : BitVec 32 := Scalar.muli v286 c4096_i32_184
  let v351 : Index := Scalar.indexCast v287
  ![v350.toNat, v351.toNat]
def k0_off14 (d0 : Dev nD) (c0_i32_227 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c64_i32_226 : BitVec 32 := 64#32
  let v355 : BitVec 32 := Scalar.muli v19 c64_i32_226
  let v356 : BitVec 32 := Scalar.addi v355 c0_i32_227
  let c0_i32_234 : BitVec 32 := 0#32
  ![v356.toNat, 0]
def k0_off15 (d0 : Dev nD) (c0_i32_239 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c64_i32_238 : BitVec 32 := 64#32
  let v369 : BitVec 32 := Scalar.muli v19 c64_i32_238
  let v370 : BitVec 32 := Scalar.addi v369 c0_i32_239
  let c0_i32_246 : BitVec 32 := 0#32
  ![v370.toNat, 0]
def k0_dev12 (d0 : Dev nD) : Nat :=
  let c0_i32_243 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_242 : BitVec 32 := 4#32
  let v371 : BitVec 32 := Scalar.muli v10 c4_i32_242
  let v372 : BitVec 32 := Scalar.addi c0_i32_243 v371
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v373 : BitVec 32 := Scalar.muli v5 c2_i32_244
  let v374 : BitVec 32 := Scalar.addi v372 v373
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_245 : BitVec 32 := 1#32
  let v375 : BitVec 32 := Scalar.muli v8 c1_i32_245
  let v376 : BitVec 32 := Scalar.addi v374 v375
  v376.toNat
def k0_off16 (d0 : Dev nD) (c0_i32_249 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c64_i32_248 : BitVec 32 := 64#32
  let v383 : BitVec 32 := Scalar.muli v19 c64_i32_248
  let v384 : BitVec 32 := Scalar.addi v383 c0_i32_249
  let v385 : Index := Scalar.indexCast v384
  let c0_250 : Index := 0#32
  ![v385.toNat, 0]
def k0_off17 (d0 : Dev nD) (c0_i32_252 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c64_i32_251 : BitVec 32 := 64#32
  let v388 : BitVec 32 := Scalar.muli v19 c64_i32_251
  let v389 : BitVec 32 := Scalar.addi v388 c0_i32_252
  let v390 : Index := Scalar.indexCast v389
  let c0_253 : Index := 0#32
  ![v390.toNat, 0]
def k0_off18 (d0 : Dev nD) (c0_i32_255 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c64_i32_254 : BitVec 32 := 64#32
  let v394 : BitVec 32 := Scalar.muli v19 c64_i32_254
  let v395 : BitVec 32 := Scalar.addi v394 c0_i32_255
  let v396 : Index := Scalar.indexCast v395
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v286 : BitVec 32 := Scalar.subi c1_i32_183 v5
  let c4096_i32_184 : BitVec 32 := 4096#32
  let v287 : BitVec 32 := Scalar.muli v286 c4096_i32_184
  let v397 : Index := Scalar.indexCast v287
  ![v396.toNat, v397.toNat]
def k0_dev13 (d0 : Dev nD) : Nat :=
  let c0_i32_275 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_274 : BitVec 32 := 4#32
  let v417 : BitVec 32 := Scalar.muli v2 c4_i32_274
  let v418 : BitVec 32 := Scalar.addi c0_i32_275 v417
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_276 : BitVec 32 := 2#32
  let v419 : BitVec 32 := Scalar.muli v5 c2_i32_276
  let v420 : BitVec 32 := Scalar.addi v418 v419
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_277 : BitVec 32 := 1#32
  let v421 : BitVec 32 := Scalar.muli v11 c1_i32_277
  let v422 : BitVec 32 := Scalar.addi v420 v421
  v422.toNat
def k0_dev14 (d0 : Dev nD) : Nat :=
  let c0_i32_307 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_306 : BitVec 32 := 4#32
  let v463 : BitVec 32 := Scalar.muli v10 c4_i32_306
  let v464 : BitVec 32 := Scalar.addi c0_i32_307 v463
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_308 : BitVec 32 := 2#32
  let v465 : BitVec 32 := Scalar.muli v5 c2_i32_308
  let v466 : BitVec 32 := Scalar.addi v464 v465
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_309 : BitVec 32 := 1#32
  let v467 : BitVec 32 := Scalar.muli v8 c1_i32_309
  let v468 : BitVec 32 := Scalar.addi v466 v467
  v468.toNat
def k0_off19 (d0 : Dev nD) (c0_i32_323 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_322 : BitVec 32 := 64#32
  let v493 : BitVec 32 := Scalar.muli v23 c64_i32_322
  let v494 : BitVec 32 := Scalar.addi v493 c0_i32_323
  let c0_i32_330 : BitVec 32 := 0#32
  ![v494.toNat, 0]
def k0_off20 (d0 : Dev nD) (c0_i32_333 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_332 : BitVec 32 := 64#32
  let v505 : BitVec 32 := Scalar.muli v23 c64_i32_332
  let v506 : BitVec 32 := Scalar.addi v505 c0_i32_333
  let v507 : Index := Scalar.indexCast v506
  let c0_334 : Index := 0#32
  ![v507.toNat, 0]
def k0_off21 (d0 : Dev nD) (c0_i32_336 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_335 : BitVec 32 := 64#32
  let v510 : BitVec 32 := Scalar.muli v23 c64_i32_335
  let v511 : BitVec 32 := Scalar.addi v510 c0_i32_336
  let v512 : Index := Scalar.indexCast v511
  let c0_337 : Index := 0#32
  ![v512.toNat, 0]
def k0_off22 (d0 : Dev nD) (c0_i32_339 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_338 : BitVec 32 := 64#32
  let v516 : BitVec 32 := Scalar.muli v23 c64_i32_338
  let v517 : BitVec 32 := Scalar.addi v516 c0_i32_339
  let v518 : Index := Scalar.indexCast v517
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v286 : BitVec 32 := Scalar.subi c1_i32_183 v5
  let c4096_i32_184 : BitVec 32 := 4096#32
  let v287 : BitVec 32 := Scalar.muli v286 c4096_i32_184
  let v519 : Index := Scalar.indexCast v287
  ![v518.toNat, v519.toNat]
def k0_off23 (d0 : Dev nD) (c0_i32_343 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_342 : BitVec 32 := 64#32
  let v523 : BitVec 32 := Scalar.muli v23 c64_i32_342
  let v524 : BitVec 32 := Scalar.addi v523 c0_i32_343
  let c2048_i32_350 : BitVec 32 := 2048#32
  ![v524.toNat, 2048]
def k0_off24 (d0 : Dev nD) (c0_i32_353 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_352 : BitVec 32 := 64#32
  let v535 : BitVec 32 := Scalar.muli v23 c64_i32_352
  let v536 : BitVec 32 := Scalar.addi v535 c0_i32_353
  let v537 : Index := Scalar.indexCast v536
  let c2048 : Index := 2048#32
  ![v537.toNat, 2048]
def k0_off25 (d0 : Dev nD) (c0_i32_358 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c64_i32_357 : BitVec 32 := 64#32
  let v546 : BitVec 32 := Scalar.muli v23 c64_i32_357
  let v547 : BitVec 32 := Scalar.addi v546 c0_i32_358
  let v549 : Index := Scalar.indexCast v547
  let c1_i32_183 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v286 : BitVec 32 := Scalar.subi c1_i32_183 v5
  let c4096_i32_184 : BitVec 32 := 4096#32
  let v287 : BitVec 32 := Scalar.muli v286 c4096_i32_184
  let c2048_i32_359 : BitVec 32 := 2048#32
  let v548 : BitVec 32 := Scalar.addi v287 c2048_i32_359
  let v550 : Index := Scalar.indexCast v548
  ![v549.toNat, v550.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.K.Setup.lean ====
/-
# The devices, the buffers, and what they come to hold

Eight devices `c = 4x + 2y + z`. Device `c` talks to the three devices that differ from it in one coordinate:
`pP c` (the other `y`), `pX c` (the other `x`) and `pZ c` (the other `z`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

/-! ## The resource algebra: the pipeline library's copy and this kernel's, whose duties are named by `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

theorem dev_lt (c : Dev nD) : c.val < 8 := c.isLt

set_option backward.proofsInPublic true in
/-- The device with the other `y`. -/
def pP (c : Dev nD) : Dev nD := ⟨(4 * (c.val / 4) + (c.val % 2) + 2) - 2 * ((c.val / 2) % 2), by have := dev_lt c; show _ < 8; omega⟩
set_option backward.proofsInPublic true in
/-- The device with the other `x`. -/
def pX (c : Dev nD) : Dev nD := ⟨(2 * ((c.val / 2) % 2) + (c.val % 2) + 4) - 4 * (c.val / 4), by have := dev_lt c; show _ < 8; omega⟩
set_option backward.proofsInPublic true in
/-- The device with the other `z`. -/
def pZ (c : Dev nD) : Dev nD := ⟨(4 * (c.val / 4) + 2 * ((c.val / 2) % 2) + 1) - (c.val % 2), by have := dev_lt c; show _ < 8; omega⟩

theorem pP_pP (c : Dev nD) : pP (pP c) = c := by revert c; decide
theorem pX_pX (c : Dev nD) : pX (pX c) = c := by revert c; decide
theorem pZ_pZ (c : Dev nD) : pZ (pZ c) = c := by revert c; decide

/-- The row block (of four, 64 rows each) device `c` exchanges with `pP c`. -/
abbrev qN (c : Dev nD) : ℕ := 2 * (c.val / 4) + c.val % 2
/-- The same number of the device with the other `x`, of the one with the other `z`, of the one with both others. -/
abbrev qxN (c : Dev nD) : ℕ := 2 * (1 - c.val / 4) + c.val % 2
abbrev qzN (c : Dev nD) : ℕ := 2 * (c.val / 4) + (1 - c.val % 2)
abbrev qdN (c : Dev nD) : ℕ := 2 * (1 - c.val / 4) + (1 - c.val % 2)

theorem qN_pP (c : Dev nD) : qN (pP c) = qN c := by revert c; decide
theorem qN_pX (c : Dev nD) : qN (pX c) = qxN c := by revert c; decide
theorem qN_pZ (c : Dev nD) : qN (pZ c) = qzN c := by revert c; decide
theorem qxN_pX (c : Dev nD) : qxN (pX c) = qN c := by revert c; decide
theorem qzN_pZ (c : Dev nD) : qzN (pZ c) = qN c := by revert c; decide
theorem qzN_pX (c : Dev nD) : qzN (pX c) = qdN c := by revert c; decide
theorem qxN_pZ (c : Dev nD) : qxN (pZ c) = qdN c := by revert c; decide
theorem qdN_pX (c : Dev nD) : qdN (pX c) = qzN c := by revert c; decide
theorem qdN_pZ (c : Dev nD) : qdN (pZ c) = qxN c := by revert c; decide

/-- The device with `c`'s other `y` whose own row block is `b`. -/
def owner (c : Dev nD) (b : Fin 4) : Dev nD := ⟨4 * (b.val / 2) + 2 * (1 - (c.val / 2) % 2) + b.val % 2, by have := b.isLt; show _ < 8; omega⟩
theorem owner_pX (c : Dev nD) (b : Fin 4) : owner (pX c) b = owner c b := by revert c b; decide
theorem owner_pZ (c : Dev nD) (b : Fin 4) : owner (pZ c) b = owner c b := by revert c b; decide
theorem owner_q (c : Dev nD) : ∀ b : Fin 4, b.val = qN c → owner c b = pP c := by revert c; decide

/-! ## The buffers -/

abbrev xM : Memref sig .tc .vmem S256x512 .f32 := Memref.whole cc0_stg0_0
abbrev wM : Memref sig .tc .vmem S512x4096 .f32 := Memref.whole cc0_stg1_0
abbrev oM : Memref sig .tc .vmem S256x8192 .f32 := Memref.whole cc0_stg2_0
abbrev eM : Memref sig .tc .vmem S256x4096 .bf16 := Memref.whole cc0_scratch0
abbrev gM : Memref sig .tc .vmem S256x4096 .bf16 := Memref.whole cc0_scratch1
abbrev xbM : Memref sig .tc .vmem S256x512 .bf16 := Memref.whole cc0_scratch2
abbrev wbM : Memref sig .tc .vmem S512x4096 .bf16 := Memref.whole cc0_scratch3
abbrev rM : Memref sig .tc .vmem S256x128 .f32 := Memref.whole cc0_scratch4
abbrev ssM : Memref sig .tc .vmem S256x128 .f32 := Memref.whole cc0_scratch5
abbrev srM : Memref sig .tc .vmem S256x128 .f32 := Memref.whole cc0_scratch6

/-- The elements with row in `[r0, r0 + h)` and column in `[c0, c0 + w)`. -/
def blk {n k : ℕ} (r0 h c0 w : ℕ) : Finset (⟨2, ![n, k]⟩ : Shape).Idx :=
  Finset.univ.filter fun i => (r0 ≤ (i 0).val ∧ (i 0).val < r0 + h) ∧ (c0 ≤ (i 1).val ∧ (i 1).val < c0 + w)

theorem mem_blk {n k : ℕ} {r0 h c0 w : ℕ} {i : (⟨2, ![n, k]⟩ : Shape).Idx} :
    i ∈ (blk r0 h c0 w : Finset (⟨2, ![n, k]⟩ : Shape).Idx) ↔ (r0 ≤ (i 0).val ∧ (i 0).val < r0 + h) ∧ (c0 ≤ (i 1).val ∧ (i 1).val < c0 + w) := by
  simp [blk]

/-- A unit-stride rectangle at offsets `![a, b]` has those elements. -/
theorem set_unit {n k : ℕ} {off : Fin 2 → ℕ} {h w : ℕ} (a b : ℕ) (hoff : off = ![a, b])
    (inb : ∀ i, off i + (![h, w] : Fin 2 → ℕ) i ≤ (![n, k] : Fin 2 → ℕ) i) :
    (Rect.unit (s := (⟨2, ![n, k]⟩ : Shape)) off ![h, w] inb).set = blk a h b w := by
  subst hoff
  ext i
  rw [Rect.mem_set_unit, mem_blk]
  constructor
  · intro h; exact ⟨h 0, h 1⟩
  · rintro ⟨h0, h1⟩ a; fin_cases a
    · exact h0
    · exact h1

/-- Holding share `q` of the elements `S` of device `c`'s buffer under `M`, at contents `f`. -/
def pt {s : Shape} {e : EltTy} (c : Dev nD) (M : Memref sig .tc .vmem s e) (S : Finset M.view.ty.Idx) (q : PosShare TreeShare)
    (f : M.view.ty.Contents (Elt F)) : sProp 𝕄 :=
  (M.view.loc (c : Thread nD τ) ↦[S]{q} f)

section Pt
variable {s : Shape} {e : EltTy} {c : Dev nD} {M : Memref sig .tc .vmem s e} {S T : Finset M.view.ty.Idx} {q : PosShare TreeShare}
  {f g : M.view.ty.Contents (Elt F)}

instance pt_storable : BI.Storable (upEmb : UEmb _ 𝕄) (pt (F := F) c M S q f) := by unfold pt; infer_instance

theorem pt_congr (h : ∀ i ∈ S, f i = g i) : (pt c M S q f : sProp 𝕄) = pt c M S q g := pointsTo_congr h

theorem pt_half : (pt c M S q f : sProp 𝕄) ⊢ iprop(pt c M S q.left f ∗ pt c M S q.right f) :=
  (pointsTo_share (PosShare.mem_left_op_right q)).1
theorem pt_unhalf : iprop(pt c M S q.left f ∗ pt c M S q.right f) ⊢ (pt c M S q f : sProp 𝕄) :=
  (pointsTo_share (PosShare.mem_left_op_right q)).2

theorem pt_cut {U : Finset M.view.ty.Idx} (h : U = S ∪ T) (hd : Disjoint S T) :
    (pt c M U q f : sProp 𝕄) ⊢ iprop(pt c M S q f ∗ pt c M T q f) := by
  subst h; exact (pointsTo_union hd).1
theorem pt_uncut {U : Finset M.view.ty.Idx} (h : U = S ∪ T) (hd : Disjoint S T) :
    iprop(pt c M S q f ∗ pt c M T q f) ⊢ (pt c M U q f : sProp 𝕄) := by
  subst h; exact (pointsTo_union hd).2
/-- Two parts at unrelated contents are the union at some contents. -/
theorem pt_join {U : Finset M.view.ty.Idx} (h : U = S ∪ T) (hd : Disjoint S T) :
    iprop((∃ f, pt c M S q f) ∗ ∃ f, pt c M T q f) ⊢ (iprop(∃ f, pt c M U q f) : sProp 𝕄) := by
  subst h
  unfold pt
  iintro ⟨⟨%f, Hf⟩, ⟨%g, Hg⟩⟩
  iexists (T.piecewise g f)
  iapply (pointsTo_join (f := f) (g := g) hd)
  isplitl [Hf]
  · iexact Hf
  · iexact Hg

end Pt

end Cert.SoftmaxProof

end
-- ==== Proof.K.Contents.lean ====
/-
# What the buffers come to hold

`x` and `W` in bfloat16 (`X1`, `W1`); the exponentials of device `c`'s half of the logits, a block of 64 rows at a
time (`eblk`), together (`E`); their row sums (`Sm`); the other half's exponentials, each block from the device with
the other `y` that owns it (`G`); the reciprocals of the summed row sums (`inv`); the result (`OUT`).
-/
module

public import proofs.«01_k».proof.Proof.K.Setup

@[expose] public section

noncomputable section

namespace Cert.SoftmaxProof

open Cert.KernelIdeal Cert.KernelIdeal.Gen
open Idealize.ShloMosaic
open Idealize.ShloMosaic.TcCoe
open Idealize.ShloMosaic.ValueIdx (ix2)

variable {F : FTy → Type} [FloatOps F]
variable (m : (ℓ : Loc nD τ sig) → Buf (Elt F) ℓ)

/-- `x` and `W`'s block as device `c`'s staging buffers hold them. -/
def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

def X1 (c : Dev nD) : FVec F S256x512 .bf16 := k0_pay1 (xstg m c)
def W1 (c : Dev nD) : FVec F S512x4096 .bf16 := k0_pay2 (wstg m c)

/-- Rows `[64 b, 64 b + 64)` of `X1`. -/
def xrow (c : Dev nD) (b : Fin 4) : FVec F S64x512 .bf16 :=
  fun i => X1 m c (ix2 ⟨64 * b.val + (i 0).val, by have := ValueIdx.idx2_lt0 i; have := b.isLt; omega⟩ (i 1))

/-- The exponentials of rows `[64 b, 64 b + 64)`, and their row sums. -/
def eblk (c : Dev nD) (b : Fin 4) : FVec F S64x4096 .bf16 := k0_pay5 (k0_pay4 (xrow m c b) (W1 m c))
def sblk (c : Dev nD) (b : Fin 4) : FVec F S64x128 .f32 := k0_pay6 (k0_pay3 (xrow m c b) (W1 m c))

/-- The block a row lies in, and its place there. -/
def rowB (r : Fin 256) : Fin 4 := ⟨r.val / 64, by have := r.isLt; omega⟩
def rowR (r : Fin 256) : Fin 64 := ⟨r.val % 64, Nat.mod_lt _ (by decide)⟩

def E (c : Dev nD) : FVec F S256x4096 .bf16 := fun i => eblk m c (rowB (i 0)) (ix2 (rowR (i 0)) (i 1))
def Sm (c : Dev nD) : FVec F S256x128 .f32 := fun i => sblk m c (rowB (i 0)) (ix2 (rowR (i 0)) (i 1))
def G (c : Dev nD) : FVec F S256x4096 .bf16 := fun i => E m (owner c (rowB (i 0))) i

/-- The first column of the row sums. -/
def col0 (v : FVec F S256x128 .f32) : FVec F S256x1 .f32 := fun i => v (ix2 (i 0) 0)
def inv (c : Dev nD) : FVec F S256x1 .f32 := k0_pay16 (col0 (Sm m c)) (col0 (Sm m (pP c)))
def RB (c : Dev nD) : FVec F S256x128 .f32 := k0_pay17 (col0 (Sm m c)) (col0 (Sm m (pP c)))

/-- The result: in the half of the columns that is device `c`'s own the scaled `E`, in the other the scaled `G`. -/
def OUT (c : Dev nD) : FVec F S256x8192 .f32 := fun i =>
  FloatOps.mulf (FloatOps.extf .f32 bitsLt_bf16_f32
    ((if (i 1).val / 4096 = (c.val / 2) % 2 then E m c else G m c) (ix2 (i 0) ⟨(i 1).val % 4096, Nat.mod_lt _ (by decide)⟩))) (inv m c (ix2 (i 0) 0))

theorem G_pX (c : Dev nD) : G m (pX c) = G m c := by funext i; unfold G; rw [owner_pX]
theorem G_pZ (c : Dev nD) : G m (pZ c) = G m c := by funext i; unfold G; rw [owner_pZ]

/-- On `c`'s own row block, `G c` is what `pP c` computed; -/
theorem G_own (c : Dev nD) (i : S256x4096.Idx) (h : 64 * qN c ≤ (i 0).val ∧ (i 0).val < 64 * qN c + 64) : G m c i = E m (pP c) i := by
  unfold G; rw [owner_q c (rowB (i 0)) (by show (i 0).val / 64 = _; omega)]
/-- and `G (pP c)` what `c` did. -/
theorem G_pP (c : Dev nD) (i : S256x4096.Idx) (h : 64 * qN c ≤ (i 0).val ∧ (i 0).val < 64 * qN c + 64) : G m (pP c) i = E m c i := by
  rw [G_own m (pP c) i (by rw [qN_pP]; exact h), pP_pP]

end Cert.SoftmaxProof

end
-- ==== Proof.K.Schedule.lean ====
/-
# The protocol

Every semaphore has one round. The barrier cell of device `c` has three duties of one unit, paid by `pP c` (duty 0),
`pX c` (duty 1) and `pZ c` (duty 2); with it the payer hands over the parts of its own buffers that `c` will write by its
copies. There are eleven remote copies, numbered 0 to 10:

* 0, 1: the halves of `c`'s own row block of the exponentials, to `pP c`;
* 2, 3 and 4, 5: the halves just received, on to `pX c` and to `pZ c`;
* 6, 7: the left columns of what `pZ c` sent, on to `pX c`; 8, 9: the right columns of what `pX c` sent, on to `pZ c`;
* 10: the row sums, to `pP c`.

Each has a cell at the sender (it gives the source back) and one at the receiver (it hands over the part written).
-/
module

public import proofs.«01_k».proof.Proof.K.Contents

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- The barrier semaphore, and the cells. -/
abbrev barS : Sem sig := (SemArray.scalar (sig.barrier 0 rfl) : Sems sig S_).sem
abbrev barCell (c : Dev nD) : GSem nD τ sig := ((c : Thread nD τ), .reg barS)
abbrev dcell (c : Dev nD) (j : DmaSem sig) : GSem nD τ sig := ((c : Thread nD τ), .dma j)

/-- The sending and the receiving semaphore of each copy; the copy a semaphore belongs to; which semaphores receive. -/
def sidx : Fin 11 → DmaSem sig := ![(3 : Fin 25), 4, 7, 8, 11, 12, 15, 16, 19, 20, 23]
def ridx : Fin 11 → DmaSem sig := ![(5 : Fin 25), 6, 9, 10, 13, 14, 17, 18, 21, 22, 24]
def kOf : DmaSem sig → Fin 11 := (![0, 0, 0, 0, 1, 0, 1, 2, 3, 2, 3, 4, 5, 4, 5, 6, 7, 6, 7, 8, 9, 8, 9, 10, 10] : Fin 25 → Fin 11)
def isR : DmaSem sig → Bool := (![false, false, false, false, false, true, true, false, false, true, true, false, false, true, true,
  false, false, true, true, false, false, true, true, false, true] : Fin 25 → Bool)
/-- The order of the semaphores: every wait is for a unit whose payers wait only for lower ones. -/
def lvD : DmaSem sig → ℕ := (![0, 0, 0, 0, 0, 2, 2, 0, 0, 3, 3, 0, 0, 3, 3, 0, 0, 4, 4, 0, 0, 4, 4, 0, 2] : Fin 25 → ℕ)
/-- The semaphores the copies use: all but the staging buffers' three. -/
def mine (j : DmaSem sig) : Prop := 3 ≤ j.val
instance (j : DmaSem sig) : Decidable (mine j) := inferInstanceAs (Decidable (3 ≤ j.val))

theorem kOf_sidx (k : Fin 11) : kOf (sidx k) = k := by revert k; decide
theorem kOf_ridx (k : Fin 11) : kOf (ridx k) = k := by revert k; decide
theorem isR_sidx (k : Fin 11) : isR (sidx k) = false := by revert k; decide
theorem isR_ridx (k : Fin 11) : isR (ridx k) = true := by revert k; decide
theorem mine_sidx (k : Fin 11) : mine (sidx k) := by revert k; decide
theorem mine_ridx (k : Fin 11) : mine (ridx k) := by revert k; decide

abbrev scell (k : Fin 11) (c : Dev nD) : GSem nD τ sig := dcell c (sidx k)
abbrev rcell (k : Fin 11) (c : Dev nD) : GSem nD τ sig := dcell c (ridx k)

/-- Whom copy `k` goes to, and whom barrier duty `d` is paid to. -/
def peer (k : Fin 11) (c : Dev nD) : Dev nD := match k with
  | 0 | 1 | 10 => pP c
  | 2 | 3 | 6 | 7 => pX c
  | 4 | 5 | 8 | 9 => pZ c
def bpeer (d : Fin 3) (c : Dev nD) : Dev nD := match d with
  | 0 => pP c
  | 1 => pX c
  | 2 => pZ c
theorem peer_peer (k : Fin 11) (c : Dev nD) : peer k (peer k c) = c := by revert k c; decide
theorem bpeer_bpeer (d : Fin 3) (c : Dev nD) : bpeer d (bpeer d c) = c := by revert d c; decide

/-- What the copies count: a half row block, half the columns of one, the row sums. -/
abbrev A4 : ℕ := (gM.slice (Rect.unit (s := S256x4096) ![0, 0] S32x4096.size (by decide)) (fun _ => rfl)).view.dmaCredit
abbrev A2 : ℕ := (gM.slice (Rect.unit (s := S256x4096) ![0, 0] S32x2048.size (by decide)) (fun _ => rfl)).view.dmaCredit
abbrev As : ℕ := srM.view.dmaCredit
def amt (k : Fin 11) : ℕ := match k with
  | 0 | 1 | 2 | 3 | 4 | 5 => A4
  | 6 | 7 | 8 | 9 => A2
  | 10 => As
theorem amt_pos (k : Fin 11) : 0 < amt k := by
  have h4 : 0 < A4 := View.dmaCredit_pos _ (by decide)
  have h2 : 0 < A2 := View.dmaCredit_pos _ (by decide)
  have hs : 0 < As := View.dmaCredit_pos _ (by decide)
  fin_cases k <;> assumption

/-! ## What the copies read and write -/

/-- The part of `G`'s buffer on device `c` that copy `k` into it fills. -/
def gD (k : Fin 11) (c : Dev nD) : Finset S256x4096.Idx := match k with
  | 0 => blk (64 * qN c) 32 0 4096
  | 1 => blk (64 * qN c + 32) 32 0 4096
  | 2 => blk (64 * qxN c) 32 0 4096
  | 3 => blk (64 * qxN c + 32) 32 0 4096
  | 4 => blk (64 * qzN c) 32 0 4096
  | 5 => blk (64 * qzN c + 32) 32 0 4096
  | 6 => blk (64 * qdN c) 32 0 2048
  | 7 => blk (64 * qdN c + 32) 32 0 2048
  | 8 => blk (64 * qdN c) 32 2048 2048
  | 9 => blk (64 * qdN c + 32) 32 2048 2048
  | 10 => ∅

/-- The source of copy `k`, as its sender holds it and gets it back. -/
def sPay (k : Fin 11) (c : Dev nD) : sProp 𝕄 := match k with
  | 0 => pt c eM (gD 0 c) fullShare.left (E m c)
  | 1 => pt c eM (gD 1 c) fullShare.left (E m c)
  | 2 => pt c gM (gD 0 c) fullShare.left (G m c)
  | 3 => pt c gM (gD 1 c) fullShare.left (G m c)
  | 4 => pt c gM (gD 0 c) fullShare.right.left (G m c)
  | 5 => pt c gM (gD 1 c) fullShare.right.left (G m c)
  | 6 => pt c gM (blk (64 * qzN c) 32 0 2048) fullShare.left (G m c)
  | 7 => pt c gM (blk (64 * qzN c + 32) 32 0 2048) fullShare.left (G m c)
  | 8 => pt c gM (blk (64 * qxN c) 32 2048 2048) fullShare.left (G m c)
  | 9 => pt c gM (blk (64 * qxN c + 32) 32 2048 2048) fullShare.left (G m c)
  | 10 => pt c ssM Finset.univ fullShare.left (Sm m c)

/-- What copy `k` leaves at its receiver. -/
def rPay (k : Fin 11) (c : Dev nD) : sProp 𝕄 := match k with
  | 10 => pt c srM Finset.univ fullShare (Sm m (pP c))
  | k => pt c gM (gD k c) fullShare (G m c)

/-- The destination of copy `k` before it, at whatever it holds. -/
def dPt (k : Fin 11) (c : Dev nD) : sProp 𝕄 := match k with
  | 10 => iprop(∃ f, pt c srM Finset.univ fullShare f)
  | k => iprop(∃ f, pt c gM (gD k c) fullShare f)

/-- What device `c` hands over with its signal of duty `d`: the destinations of the copies that come from `bpeer d c`. -/
def give (d : Fin 3) (c : Dev nD) : sProp 𝕄 := match d with
  | 0 => iprop(dPt 0 c ∗ dPt 1 c ∗ dPt 10 c)
  | 1 => iprop(dPt 2 c ∗ dPt 3 c ∗ dPt 6 c ∗ dPt 7 c)
  | 2 => iprop(dPt 4 c ∗ dPt 5 c ∗ dPt 8 c ∗ dPt 9 c)

instance sPay_storable (k : Fin 11) (c : Dev nD) : BI.Storable (upEmb : UEmb _ 𝕄) (sPay (F := F) m k c) := by
  unfold sPay; split <;> infer_instance
instance rPay_storable (k : Fin 11) (c : Dev nD) : BI.Storable (upEmb : UEmb _ 𝕄) (rPay (F := F) m k c) := by
  unfold rPay; split <;> infer_instance
instance dPt_storable (k : Fin 11) (c : Dev nD) : BI.Storable (upEmb : UEmb _ 𝕄) (dPt (F := F) k c) := by
  unfold dPt; split <;> infer_instance
instance give_storable (d : Fin 3) (c : Dev nD) : BI.Storable (upEmb : UEmb _ 𝕄) (give (F := F) d c) := by
  unfold give; split <;> infer_instance

/-! ## The schedule -/

def theRd : Rounds.Schedule (GSem nD τ sig) (Fin 3) 𝕄 where
  duties g r := if r = 0 ∧ g.1.2 = .tc then (match g.2 with
    | .reg _ => Finset.univ
    | .dma j => if mine j then {0} else ∅) else ∅
  unitless _ := False
  amount g _ _ := match g.2 with
    | .reg _ => 1
    | .dma j => amt (kOf j)
  payload g _ d := match g.2 with
    | .reg _ => give d (bpeer d g.1.1)
    | .dma j => if isR j then rPay m (kOf j) g.1.1 else sPay m (kOf j) g.1.1
  amount_pos g _ _ _ := by
    rcases g with ⟨t, sm⟩
    cases sm
    · exact Nat.one_pos
    · exact amt_pos _

instance theRd_payload_storable (g : GSem nD τ sig) (r : ℕ) (d : Fin 3) :
    BI.Storable (upEmb : UEmb _ 𝕄) ((theRd (F := F) m).payload g r d) := by
  rcases g with ⟨t, sm⟩
  cases sm
  · show BI.Storable upEmb (give d (bpeer d t.1)); infer_instance
  · rename_i j
    show BI.Storable upEmb (if isR j then rPay m (kOf j) t.1 else sPay m (kOf j) t.1)
    split <;> infer_instance

theorem duties_bar (c : Dev nD) : (theRd (F := F) m).duties (barCell c) 0 = Finset.univ := by
  dsimp only [theRd]; exact if_pos ⟨rfl, rfl⟩
theorem duties_dma (c : Dev nD) (j : DmaSem sig) (h : mine j) : (theRd (F := F) m).duties (dcell c j) 0 = {0} := by
  dsimp only [theRd]; rw [if_pos ⟨rfl, rfl⟩]; exact if_pos h
theorem duties_later (g : GSem nD τ sig) : ∀ r, 1 ≤ r → (theRd (F := F) m).duties g r = ∅ :=
  fun r hr => if_neg fun h => by omega
theorem amount_bar (c : Dev nD) (d : Fin 3) : (theRd (F := F) m).amount (barCell c) 0 d = 1 := rfl
theorem amount_s (k : Fin 11) (c : Dev nD) (d : Fin 3) : (theRd (F := F) m).amount (scell k c) 0 d = amt k := by
  show amt (kOf (sidx k)) = _; rw [kOf_sidx]
theorem amount_r (k : Fin 11) (c : Dev nD) (d : Fin 3) : (theRd (F := F) m).amount (rcell k c) 0 d = amt k := by
  show amt (kOf (ridx k)) = _; rw [kOf_ridx]
theorem payload_bar (c : Dev nD) (d : Fin 3) : (theRd (F := F) m).payload (barCell c) 0 d = give d (bpeer d c) := rfl
theorem payload_s (k : Fin 11) (c : Dev nD) (d : Fin 3) : (theRd (F := F) m).payload (scell k c) 0 d = sPay m k c := by
  show (if isR (sidx k) then rPay m (kOf (sidx k)) c else sPay m (kOf (sidx k)) c) = _
  rw [isR_sidx, kOf_sidx]; rfl
theorem payload_r (k : Fin 11) (c : Dev nD) (d : Fin 3) : (theRd (F := F) m).payload (rcell k c) 0 d = rPay m k c := by
  show (if isR (ridx k) then rPay m (kOf (ridx k)) c else sPay m (kOf (ridx k)) c) = _
  rw [isR_ridx, kOf_ridx]; rfl
theorem expect_bar (c : Dev nD) : (theRd (F := F) m).expect (barCell c) 0 = 3 := by
  unfold Schedule.expect Schedule.amountOf
  rw [duties_bar, Finset.sum_congr rfl fun d _ => amount_bar m c d]; rfl
theorem expect_s (k : Fin 11) (c : Dev nD) : (theRd (F := F) m).expect (scell k c) 0 = amt k := by
  unfold Schedule.expect Schedule.amountOf
  rw [duties_dma m c _ (mine_sidx k), Finset.sum_singleton, amount_s]
theorem expect_r (k : Fin 11) (c : Dev nD) : (theRd (F := F) m).expect (rcell k c) 0 = amt k := by
  unfold Schedule.expect Schedule.amountOf
  rw [duties_dma m c _ (mine_ridx k), Finset.sum_singleton, amount_r]

/-- The rest of a cell's round, no duty taken: all its payloads. -/
theorem rest_bar (c : Dev nD) : bigSep ((theRd (F := F) m).duties (barCell c) 0 \ ∅) (fun d => (theRd (F := F) m).payload (barCell c) 0 d)
    = iprop(give 0 (pP c) ∗ give 1 (pX c) ∗ give 2 (pZ c)) := by
  rw [Finset.sdiff_empty, duties_bar, bigSep_univ_eq_bigSepL [0, 1, 2] (by decide) (by decide)]; rfl
theorem rest_s (k : Fin 11) (c : Dev nD) : bigSep ((theRd (F := F) m).duties (scell k c) 0 \ ∅) (fun d => (theRd (F := F) m).payload (scell k c) 0 d)
    = sPay m k c := by
  rw [Finset.sdiff_empty, duties_dma m c _ (mine_sidx k), bigSep_singleton, payload_s]
theorem rest_r (k : Fin 11) (c : Dev nD) : bigSep ((theRd (F := F) m).duties (rcell k c) 0 \ ∅) (fun d => (theRd (F := F) m).payload (rcell k c) 0 d)
    = rPay m k c := by
  rw [Finset.sdiff_empty, duties_dma m c _ (mine_ridx k), bigSep_singleton, payload_r]

/-! ## What a device owes; the levels -/

/-- A unit owed: a barrier duty or a copy. -/
inductive Due
  | sig (d : Fin 3)
  | cp (k : Fin 11)
  deriving DecidableEq

def dueCell (c : Dev nD) : Due → GSem nD τ sig
  | .sig d => barCell (bpeer d c)
  | .cp k => rcell k (peer k c)
def dueAmt : Due → ℕ
  | .sig _ => 1
  | .cp k => amt k
def dueLv : Due → ℕ
  | .sig _ => 1
  | .cp k => lvD (ridx k)

/-- What device `c` owes while the dues `l` are still to be paid, the next one first. -/
def oweL (c : Dev nD) : List Due → CellTallies nD τ sig Unit
  | [] => 0
  | a :: l => oweL c l + tallyAt (dueCell c a) () (dueAmt a)

/-- All dues, in the order they are paid in. -/
def dues : List Due := [.sig 0, .sig 1, .sig 2, .cp 0, .cp 1, .cp 10, .cp 2, .cp 4, .cp 3, .cp 5, .cp 8, .cp 6, .cp 9, .cp 7]

def L (g : GSem nD τ sig) : Finset Unit := if g.1.2 = .tc then {()} else ∅
def lv (g : GSem nD τ sig) (_ : Unit) : ℕ := match g.2 with
  | .reg _ => 1
  | .dma j => lvD j

theorem L_of_ne (g : GSem nD τ sig) (h : g.1.2 ≠ .tc) : L g = ∅ := if_neg h
theorem L_tc (c : Dev nD) (sm : SemLoc sig) : L ((c : Thread nD τ), sm) = {()} := if_pos rfl

theorem oweL_pos {c : Dev nD} {g : GSem nD τ sig} {u : Unit} : ∀ {l : List Due}, 0 < oweL c l g u → ∃ a ∈ l, g = dueCell c a
  | [], h => absurd h (Nat.lt_irrefl 0)
  | a :: l, h => by
    rcases Pipeline.add_pos_cases h with h | h
    · obtain ⟨b, hb, e⟩ := oweL_pos h; exact ⟨b, List.mem_cons_of_mem _ hb, e⟩
    · exact ⟨a, List.mem_cons_self, (Pipeline.tallyAt_pos h).1⟩

theorem lv_due (c : Dev nD) (a : Due) : lv (dueCell c a) () = dueLv a := by cases a <;> rfl
theorem L_due (c : Dev nD) (a : Due) : L (dueCell c a) = {()} := by cases a <;> exact if_pos rfl

/-- While the dues `l` are owed a device may wait on a semaphore below all of them. -/
theorem mayWait (c : Dev nD) (sm : SemLoc sig) (l : List Due) (h : ∀ a ∈ l, lv ((c : Thread nD τ), sm) () < dueLv a) :
    (levAts L lv : sProp 𝕄) ⊢ MayWait (c : Thread nD τ) sm () (oweL c l) :=
  Pipeline.mayWait_of_levAts (by rw [L_tc]; exact Finset.mem_singleton_self _) fun g u hg => by
    obtain ⟨a, ha, rfl⟩ := oweL_pos hg
    rw [L_due, lv_due]
    exact ⟨Finset.mem_singleton_self _, h a ha⟩

end Cert.SoftmaxProof

end
-- ==== Proof.K.Rules.lean ====
/-
# The steps of the body

One rule per kind of step, each with the protocol's facts it needs bundled: a signal, the barrier wait, a remote copy,
the wait for its arrival, the wait for its departure; a load, a store.
-/
module

public import proofs.«01_k».proof.Proof.K.Schedule

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The protocol's facts, bundled -/

/-- Cell `g`'s invariant, and that its round 0 has begun. -/
def known (g : GSem nD τ sig) : sProp 𝕄 := iprop((∃ κ : ℕ, cellInv ER (theRd m) κ g) ∗ reached ER g 0)
instance known_persistent (g : GSem nD τ sig) : BI.Persistent (known m g) := by unfold known; infer_instance

/-- What device `c` owes, whatever it has waited for. -/
def ow (c : Dev nD) (O : CellTallies nD τ sig Unit) : sProp 𝕄 := iprop(∃ W, owes (c : Thread nD τ) O W)

/-- Device `c` may pay barrier duty `d`. -/
def canSig (d : Fin 3) (c : Dev nD) : sProp 𝕄 :=
  iprop(known m (barCell (bpeer d c)) ∗ dutyTok ER (barCell (bpeer d c)) 0 d)
/-- Device `c` may wait for its barrier's three units. -/
def canBar (c : Dev nD) : sProp 𝕄 :=
  iprop(known m (barCell c) ∗ atPos ER (barCell c) 0 ∅ 0 ∗ cred (tallyAt (barCell c) () 3))
/-- Device `c` may start copy `k`; -/
def canSend (k : Fin 11) (c : Dev nD) : sProp 𝕄 :=
  iprop(known m (scell k c) ∗ known m (rcell k (peer k c)) ∗ atPos ER (scell k c) 0 ∅ 0
    ∗ dutyTok ER (scell k c) 0 0 ∗ dutyTok ER (rcell k (peer k c)) 0 0)
/-- it has, and may wait for its departure; -/
def sent (k : Fin 11) (c : Dev nD) : sProp 𝕄 :=
  iprop(known m (scell k c) ∗ atPos ER (scell k c) 0 ∅ 0 ∗ cred (tallyAt (scell k c) () (amt k)))
/-- it may wait for the arrival of copy `k` to it. -/
def canRecv (k : Fin 11) (c : Dev nD) : sProp 𝕄 :=
  iprop(known m (rcell k c) ∗ atPos ER (rcell k c) 0 ∅ 0 ∗ cred (tallyAt (rcell k c) () (amt k)))

section Steps
variable {α : Type} {Q : α → sProp (MT nD τ sig Unit (Elt F) ℕ UU ℕ)} {k' : PUnit → Prog (TpuEff nD τ sig (Elt F) Λ₀ .tc) α}

/-- A signal of duty `d`. -/
theorem wp_sig (d : Fin 3) (c n : Dev nD) (hn : n = bpeer d c) {u : ℕ} (hu : u = 1) (l : List Due) :
    iprop(canSig m d c ∗ give d c ∗ ow c (oweL c (.sig d :: l)))
      ⊢ iprop((ow c (oweL c l) -∗ wpc c (k' ⟨⟩) Q) -∗ wpc c (.op (.semSignal (Dev.tc n : Thread nD τ) barS u) k') Q) := by
  subst hn hu
  unfold canSig known ow
  iintro ⟨⟨⟨⟨%κ, #HI⟩, #Hr⟩, Ht⟩, Hg, ⟨%W, HO⟩⟩ Hk
  iapply (Rounds.wp_signal 𝒱₀ ER (theRd m) (c : Thread nD τ) none (dst := (bpeer d c : Thread nD τ)) (κ := κ)
      (d := d) (by rw [duties_bar]; exact Finset.mem_univ _) (amount_bar m (bpeer d c) d) () (oweL c l) rfl)
    $$ [HO Ht Hg]
  · isplitr; · iexact HI
    isplitl [HO]; · iexact HO
    isplitl [Ht]; · iexact Ht
    isplitl [Hg]; · rw [payload_bar, bpeer_bpeer]; iexact Hg
    iexact Hr
  iintro HO
  iapply Hk
  iexists W; iexact HO

/-- The barrier wait: the destinations of `c`'s copies come with it. -/
theorem wp_bar (c : Dev nD) {u : ℕ} (hu : u = 3) (l : List Due) (hl : ∀ a ∈ l, 1 < dueLv a) :
    iprop(canBar m c ∗ levAts L lv ∗ ow c (oweL c l))
      ⊢ iprop(((ow c (oweL c l) ∗ semVal (barCell c) 0 ∗ give 0 (pP c) ∗ give 1 (pX c) ∗ give 2 (pZ c)) -∗ wpc c (k' ⟨⟩) Q)
          -∗ wpc c (.op (.semWait barS u) k') Q) := by
  subst hu
  unfold canBar known ow
  iintro ⟨⟨⟨⟨%κ, #HI⟩, #Hr⟩, Hat, Hc⟩, #Hlev, ⟨%W, HO⟩⟩ Hk
  iapply (Rounds.wp_wait_rest_token 𝒱₀ ER (theRd m) (c : Thread nD τ) none (κ := κ)
      (wpE_semWait_eq 𝒱₀ (c : Thread nD τ) none Set.univ) (Set.mem_univ _) () (O := oweL c l) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) l hl); iexact Hlev
    iexact Hat
  iintro ⟨HO, Hat, -, Hpay⟩
  imod (Rounds.cell_close ER (theRd m) (Set.mem_univ κ) (fun h => h) (R := 0 + 1) (duties_later m (barCell c))) $$ [Hat] with Hz
  · isplitr; · iexact HI
    iexact Hat
  ihave Hp := (Entails.of_eq (rest_bar m c)) $$ Hpay
  iapply Hk
  isplitl [HO]; · iexists _; iexact HO
  isplitl [Hz]; · iexact Hz
  iexact Hp

/-- The wait for the arrival of copy `k`. -/
theorem wp_arr (k : Fin 11) (c : Dev nD) {b : DmaSem sig} (hb : b = ridx k) {s₁ s₂ : Space} {sh : Shape} {e : EltTy}
    {src : Memref sig .tc s₁ sh e} {dst : Memref sig .tc s₂ sh e} {h1 h2} (hA : dst.view.dmaCredit = amt k)
    (l : List Due) (hl : ∀ a ∈ l, lvD (ridx k) < dueLv a) :
    iprop(canRecv m k c ∗ levAts L lv ∗ ow c (oweL c l))
      ⊢ iprop(((ow c (oweL c l) ∗ semVal (rcell k c) 0 ∗ rPay m k c) -∗ wpc c (k' ⟨⟩) Q)
          -∗ wpc c (.op (.waitDma2 b src dst h1 h2) k') Q) := by
  subst hb
  unfold canRecv known ow
  iintro ⟨⟨⟨⟨%κ, #HI⟩, #Hr⟩, Hat, Hc⟩, #Hlev, ⟨%W, HO⟩⟩ Hk
  iapply (Rounds.wp_wait_rest_token 𝒱₀ ER (theRd m) (c : Thread nD τ) none (κ := κ)
      (wpE_waitDma2_eq 𝒱₀ (c : Thread nD τ) none Set.univ) (Set.mem_univ _) () (O := oweL c l) (W := W) (R := 0) (m := 0) (T := ∅)
      (by rw [expect_r, Nat.zero_add]; exact hA)) $$ [Hc HO Hat]
  · isplitr; · iexact HI
    isplitl [Hc]; · rw [hA]; iexact Hc
    isplitl [HO]; · iexact HO
    isplitr; · iapply (mayWait c (.dma (ridx k)) l hl); iexact Hlev
    iexact Hat
  iintro ⟨HO, Hat, -, Hpay⟩
  imod (Rounds.cell_close ER (theRd m) (Set.mem_univ κ) (fun h => h) (R := 0 + 1) (duties_later m (rcell k c))) $$ [Hat] with Hz
  · isplitr; · iexact HI
    iexact Hat
  ihave Hp := (Entails.of_eq (rest_r m k c)) $$ Hpay
  iapply Hk
  isplitl [HO]; · iexists _; iexact HO
  isplitl [Hz]; · iexact Hz
  iexact Hp

/-- The wait for the departure of copy `k`, nothing owed any more. -/
theorem wp_dep (k : Fin 11) (c : Dev nD) {b : DmaSem sig} (hb : b = sidx k) {s₁ s₂ : Space} {sh : Shape} {e : EltTy}
    {src : Memref sig .tc s₁ sh e} {dst : Memref sig .tc s₂ sh e} {h1 h2} (hA : dst.view.dmaCredit = amt k) :
    iprop(sent m k c ∗ ow c 0)
      ⊢ iprop(((ow c 0 ∗ semVal (scell k c) 0 ∗ sPay m k c) -∗ wpc c (k' ⟨⟩) Q)
          -∗ wpc c (.op (.waitDma2 b src dst h1 h2) k') Q) := by
  subst hb
  unfold sent known ow
  iintro ⟨⟨⟨⟨%κ, #HI⟩, #Hr⟩, Hat, Hc⟩, ⟨%W, HO⟩⟩ Hk
  iapply (Rounds.wp_wait_rest_token 𝒱₀ ER (theRd m) (c : Thread nD τ) none (κ := κ)
      (wpE_waitDma2_eq 𝒱₀ (c : Thread nD τ) none Set.univ) (Set.mem_univ _) () (O := 0) (W := W) (R := 0) (m := 0) (T := ∅)
      (by rw [expect_s, Nat.zero_add]; exact hA)) $$ [Hc HO Hat]
  · isplitr; · iexact HI
    isplitl [Hc]; · rw [hA]; iexact Hc
    isplitl [HO]; · iexact HO
    isplitr; · rw [MayWait_zero]; iempintro
    iexact Hat
  iintro ⟨HO, Hat, -, Hpay⟩
  imod (Rounds.cell_close ER (theRd m) (Set.mem_univ κ) (fun h => h) (R := 0 + 1) (duties_later m (scell k c))) $$ [Hat] with Hz
  · isplitr; · iexact HI
    iexact Hat
  ihave Hp := (Entails.of_eq (rest_s m k c)) $$ Hpay
  iapply Hk
  isplitl [HO]; · iexists _; iexact HO
  isplitl [Hz]; · iexact Hz
  iexact Hp

/-- Copy `k`, whatever its operands are spelt as: they name its source and its destination, and what it writes is what
    its receiver is promised. -/
theorem wp_copy (k : Fin 11) (c n : Dev nD) (hn : n = peer k c) {a b : DmaSem sig} (ha : a = sidx k) (hb : b = ridx k)
    {sh : Shape} {e : EltTy} {src dst : Memref sig .tc .vmem sh e} {hsc : dst.view.ref.isScScratch = false} {h1 h2 h3}
    (hA : dst.view.dmaCredit = amt k) (q : PosShare TreeShare) (fs : src.view.ty.Contents (Elt F))
    (hs : sPay m k c = pt c src src.view.set q fs) (hd : dPt (F := F) k (peer k c) = iprop(∃ fd, pt (peer k c) dst dst.view.set fullShare fd))
    (hr : ∀ fd, pt (peer k c) dst dst.view.set fullShare (dst.view.write (Elt F) fd (src.view.read (Elt F) fs) Finset.univ) ⊢ rPay m k (peer k c))
    (l : List Due) :
    iprop(canSend m k c ∗ sPay m k c ∗ dPt k (peer k c) ∗ ow c (oweL c (.cp k :: l)))
      ⊢ iprop(((sent m k c ∗ ow c (oweL c l)) -∗ wpc c (k' ⟨⟩) Q)
          -∗ wpc c (.op (.enqueueDma src (.remote (Dev.tc n : Thread nD τ) dst (.dma a) hsc) (.dma b) h1 h2 h3) k') Q) := by
  subst hn ha hb
  rw [hd]
  unfold canSend sent known ow
  iintro ⟨⟨⟨⟨%κ₁, #HI₁⟩, #Hr₁⟩, ⟨⟨%κ₂, #HI₂⟩, #Hr₂⟩, Hat, Ht₁, Ht₂⟩, Hs, ⟨%fd, Hd⟩, ⟨%W, HO⟩⟩ Hk
  ihave Hs' := (Entails.of_eq hs) $$ Hs
  unfold pt at hs hr ⊢
  iapply (Rounds.wp_send_pointsTo 𝒱₀ ER (theRd m) (c : Thread nD τ) none (c' := (peer k c : Thread nD τ)) (src := src) (dst := dst) (sS := .dma (sidx k)) (sem := .dma (ridx k)) (κ₁ := κ₁) (κ₂ := κ₂)
    (r₁ := 0) (r₂ := 0) (d₁ := 0) (d₂ := 0) (fd := fd) (fs := fs) (q := q)
    (by rw [duties_dma m c _ (mine_sidx k)]; exact Finset.mem_singleton_self _)
    (by rw [duties_dma m (peer k c) _ (mine_ridx k)]; exact Finset.mem_singleton_self _)
    () () (amt k) hA (amount_s m k c 0) (amount_r m k (peer k c) 0) (oweL c l) rfl (W := W)
    (by rw [payload_s, hs])
    (by rw [payload_r]; exact hr fd)) $$ [Hs' Hd HO Ht₁ Ht₂]
  · isplitr; · iexact HI₁
    isplitr; · iexact HI₂
    isplitl [Hs']; · iexact Hs'
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hat Hc]
  · isplitr
    · isplitr; · iexists κ₁; iexact HI₁
      iexact Hr₁
    isplitl [Hat]; · iexact Hat
    iexact Hc
  iexists W; iexact HO

end Steps

section Mem
variable {α : Type} {Q : α → sProp (MT nD τ sig Unit (Elt F) ℕ UU ℕ)} {s : Shape} {e : EltTy} {c : Dev nD} {M : Memref sig .tc .vmem s e}
  {S : Finset M.view.ty.Idx} {q : PosShare TreeShare} {f : M.view.ty.Contents (Elt F)}

/-- A load out of what is held, its value `v`. -/
theorem wp_ld {r : LoadRect s} {hl} {k' : (r.shape.Idx → Elt F e) → Prog (TpuEff nD τ sig (Elt F) Λ₀ .tc) α}
    (hS : M.view.setOn r.set ⊆ S) {v : r.shape.Idx → Elt F e} (hv : M.view.readAt (Elt F) r f = v) :
    (pt c M S q f : sProp 𝕄) ⊢ iprop((pt c M S q f -∗ wpc c (k' v) Q) -∗ wpc c (.op (.load M r hl) k') Q) := by
  subst hv
  unfold pt
  exact wp_load 𝒱₀ (c : Thread nD τ) none Set.univ (m := M) hS

/-- A store over all of what is held, of what `g` has there. -/
theorem wp_st {r : Rect s} {w : r.shape.Idx → Elt F e} {hx hm} {k' : PUnit → Prog (TpuEff nD τ sig (Elt F) Λ₀ .tc) α}
    (hS : (M.access r).set = S) (g : M.view.ty.Contents (Elt F)) (hw : (M.access r).read (Elt F) g = w) :
    (pt c M S fullShare f : sProp 𝕄) ⊢ iprop((pt c M S fullShare g -∗ wpc c (k' ⟨⟩) Q) -∗ wpc c (.op (.store M r w Finset.univ hx hm) k') Q) := by
  subst hw hS
  have h : (pt c M (M.access r).set fullShare ((M.access r).write (Elt F) f ((M.access r).read (Elt F) g) Finset.univ) : sProp 𝕄)
      = pt c M (M.access r).set fullShare g := pt_congr fun i hi => by
    rw [View.write_read_eq_piecewise]; exact Finset.piecewise_eq_of_mem _ _ _ hi
  rw [← h]
  unfold pt
  exact wp_store 𝒱₀ (c : Thread nD τ) none Set.univ (m := M) (r := r) (Mk := Finset.univ) (Finset.Subset.refl _)

end Mem

end Cert.SoftmaxProof

end
-- ==== Proof.K.Access.lean ====
/-
# The accesses of the body

Where each slice, load and store of the body lies, and what it reads or leaves there.
-/
module

public import proofs.«01_k».proof.Proof.K.Rules

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ)

/-! ## Whom the body names -/

theorem dev1_eq (c : Dev nD) : (⟨k0_dev1 c, k0_dev1_lt c⟩ : Dev nD) = pP c := Fin.ext (k0_dev1_eq c)
theorem dev2_eq (c : Dev nD) : (⟨k0_dev2 c, k0_dev2_lt c⟩ : Dev nD) = pX c := Fin.ext (k0_dev2_eq c)
theorem dev3_eq (c : Dev nD) : (⟨k0_dev3 c, k0_dev3_lt c⟩ : Dev nD) = pZ c := Fin.ext (k0_dev3_eq c)
theorem dev4_eq (c : Dev nD) : (⟨k0_dev4 c, k0_dev4_lt c⟩ : Dev nD) = pP c := Fin.ext (k0_dev4_eq c)
theorem dev5_eq (c : Dev nD) : (⟨k0_dev5 c, k0_dev5_lt c⟩ : Dev nD) = pP c := Fin.ext (k0_dev5_eq c)
theorem dev6_eq (c : Dev nD) : (⟨k0_dev6 c, k0_dev6_lt c⟩ : Dev nD) = pP c := Fin.ext (k0_dev6_eq c)
theorem dev7_eq (c : Dev nD) : (⟨k0_dev7 c, k0_dev7_lt c⟩ : Dev nD) = pX c := Fin.ext (k0_dev7_eq c)
theorem dev8_eq (c : Dev nD) : (⟨k0_dev8 c, k0_dev8_lt c⟩ : Dev nD) = pZ c := Fin.ext (k0_dev8_eq c)
theorem dev9_eq (c : Dev nD) : (⟨k0_dev9 c, k0_dev9_lt c⟩ : Dev nD) = pX c := Fin.ext (k0_dev9_eq c)
theorem dev10_eq (c : Dev nD) : (⟨k0_dev10 c, k0_dev10_lt c⟩ : Dev nD) = pZ c := Fin.ext (k0_dev10_eq c)
theorem dev11_eq (c : Dev nD) : (⟨k0_dev11 c, k0_dev11_lt c⟩ : Dev nD) = pZ c := Fin.ext (k0_dev11_eq c)
theorem dev12_eq (c : Dev nD) : (⟨k0_dev12 c, k0_dev12_lt c⟩ : Dev nD) = pX c := Fin.ext (k0_dev12_eq c)
theorem dev13_eq (c : Dev nD) : (⟨k0_dev13 c, k0_dev13_lt c⟩ : Dev nD) = pZ c := Fin.ext (k0_dev13_eq c)
theorem dev14_eq (c : Dev nD) : (⟨k0_dev14 c, k0_dev14_lt c⟩ : Dev nD) = pX c := Fin.ext (k0_dev14_eq c)

/-! ## Where the accesses lie -/

/-- The first column of the result that `c`'s own half fills, and of the other half. -/
abbrev yo (c : Dev nD) : ℕ := 4096 * ((c.val / 2) % 2)
abbrev yn (c : Dev nD) : ℕ := 4096 - 4096 * ((c.val / 2) % 2)
/-- The `r`-th row block in the order `c` computes them: its own first. -/
def bq (c : Dev nD) (r : Fin 4) : Fin 4 := ⟨(qN c + r.val) % 4, Nat.mod_lt _ (by decide)⟩

theorem off1_at (c : Dev nD) (r : Fin 4) : k0_off1 c (BitVec.ofNat 32 r.val) = ![64 * (bq c r).val, 0] := k0_off1_eq c r
theorem off2_at (c : Dev nD) (r : Fin 4) : k0_off2 c (BitVec.ofNat 32 r.val) = ![64 * (bq c r).val, 0] := k0_off2_eq c r
theorem off3_at (c : Dev nD) (r : Fin 4) : k0_off3 c (BitVec.ofNat 32 r.val) = ![64 * (bq c r).val, 0] := k0_off3_eq c r

/-- Own rows, -/
theorem off4_at : ∀ (c : Dev nD) (i : Fin 2), k0_off4 c (BitVec.ofNat 32 (32 * i.val)) = ![64 * qN c + 32 * i.val, 0] := by decide +kernel
theorem off5_at : ∀ c : Dev nD, k0_off5 c = ![0, yo c] := by decide +kernel
theorem off6_at : ∀ c : Dev nD, k0_off6 c = ![64 * qN c, 0] := by decide +kernel
theorem off7_at : ∀ c : Dev nD, k0_off7 c = ![64 * qN c, 0] := by decide +kernel
theorem off8_at : ∀ c : Dev nD, k0_off8 c = ![64 * qN c, yn c] := by decide +kernel
/-- the rows of the device with the other `x`, -/
theorem off9_at : ∀ (c : Dev nD) (i : Fin 2), k0_off9 c (BitVec.ofNat 32 (32 * i.val)) = ![64 * qxN c + 32 * i.val, 0] := by decide +kernel
theorem off10_at : ∀ (c : Dev nD) (i : Fin 2), k0_off10 c (BitVec.ofNat 32 (32 * i.val)) = ![64 * qxN c + 32 * i.val, 2048] := by decide +kernel
theorem off11_at : ∀ (c : Dev nD) (i : Fin 2), k0_off11 c (BitVec.ofNat 32 (32 * i.val)) = ![64 * qxN c + 32 * i.val, 0] := by decide +kernel
theorem off12_at : ∀ (c : Dev nD) (i : Fin 2), k0_off12 c (BitVec.ofNat 32 (32 * i.val)) = ![64 * qxN c + 32 * i.val, 0] := by decide +kernel
theorem off13_at : ∀ (c : Dev nD) (i : Fin 2), k0_off13 c (BitVec.ofNat 32 (32 * i.val)) = ![64 * qxN c + 32 * i.val, yn c] := by decide +kernel
/-- of the one with the other `z`, -/
theorem off14_at : ∀ (c : Dev nD) (i : Fin 2), k0_off14 c (BitVec.ofNat 32 (32 * i.val)) = ![64 * qzN c + 32 * i.val, 0] := by decide +kernel
theorem off15_at : ∀ (c : Dev nD) (i : Fin 2), k0_off15 c (BitVec.ofNat 32 (32 * i.val)) = ![64 * qzN c + 32 * i.val, 0] := by decide +kernel
theorem off16_at : ∀ (c : Dev nD) (i : Fin 2), k0_off16 c (BitVec.ofNat 32 (32 * i.val)) = ![64 * qzN c + 32 * i.val, 0] := by decide +kernel
theorem off17_at : ∀ (c : Dev nD) (i : Fin 2), k0_off17 c (BitVec.ofNat 32 (32 * i.val)) = ![64 * qzN c + 32 * i.val, 0] := by decide +kernel
theorem off18_at : ∀ (c : Dev nD) (i : Fin 2), k0_off18 c (BitVec.ofNat 32 (32 * i.val)) = ![64 * qzN c + 32 * i.val, yn c] := by decide +kernel
/-- of the one with both others. -/
theorem off19_at : ∀ (c : Dev nD) (i : Fin 2), k0_off19 c (BitVec.ofNat 32 (32 * i.val)) = ![64 * qdN c + 32 * i.val, 0] := by decide +kernel
theorem off20_at : ∀ (c : Dev nD) (i : Fin 2), k0_off20 c (BitVec.ofNat 32 (32 * i.val)) = ![64 * qdN c + 32 * i.val, 0] := by decide +kernel
theorem off21_at : ∀ (c : Dev nD) (i : Fin 2), k0_off21 c (BitVec.ofNat 32 (32 * i.val)) = ![64 * qdN c + 32 * i.val, 0] := by decide +kernel
theorem off22_at : ∀ (c : Dev nD) (i : Fin 2), k0_off22 c (BitVec.ofNat 32 (32 * i.val)) = ![64 * qdN c + 32 * i.val, yn c] := by decide +kernel
theorem off23_at : ∀ (c : Dev nD) (i : Fin 2), k0_off23 c (BitVec.ofNat 32 (32 * i.val)) = ![64 * qdN c + 32 * i.val, 2048] := by decide +kernel
theorem off24_at : ∀ (c : Dev nD) (i : Fin 2), k0_off24 c (BitVec.ofNat 32 (32 * i.val)) = ![64 * qdN c + 32 * i.val, 2048] := by decide +kernel
theorem off25_at : ∀ (c : Dev nD) (i : Fin 2), k0_off25 c (BitVec.ofNat 32 (32 * i.val)) = ![64 * qdN c + 32 * i.val, yn c + 2048] := by decide +kernel

/-! ## What an access names -/

/-- A whole buffer's view names the elements as they are. -/
theorem setOn_whole (b : Ref sig .tc) (I : Finset b.ty.shape.Idx) : (Memref.whole b).view.setOn I = I := by
  ext i
  simp [View.setOn]

/-- What a load at a rectangle of a whole buffer reads lies in the rectangle, -/
theorem ld_set (b : Ref sig .tc) (r : Rect b.ty.shape) : (Memref.whole b).view.setOn r.toLoadRect.set = r.set := setOn_whole b r.set
/-- and a store through it, or a copy of the slice, touches the rectangle. -/
theorem acc_set (b : Ref sig .tc) (r : Rect b.ty.shape) : ((Memref.whole b).access r).set = r.set := View.set_slice_whole b r

end Cert.SoftmaxProof

end
-- ==== Proof.K.Values.lean ====
/-
# What the loads read and the stores leave

Each store's payload, computed from what was loaded, is the part of the buffer's final contents that it covers.
-/
module

public import proofs.«01_k».proof.Proof.K.Access
public import Idealize.ShloMosaic.Lib.Pipeline.Value

@[expose] public section

noncomputable section

namespace Cert.SoftmaxProof

open Cert.KernelIdeal Cert.KernelIdeal.Gen
open Idealize.ShloMosaic
open Idealize.ShloMosaic.TcCoe
open Idealize.ShloMosaic.ValueIdx (ix2)

variable {F : FTy → Type} [FloatOps F]
variable (m : (ℓ : Loc nD τ sig) → Buf (Elt F) ℓ)

/-- An index of a unit-stride rectangle, as an index of the buffer. -/
theorem emb_eq {n k h w : ℕ} {off : Fin 2 → ℕ} (a b : ℕ) (hoff : off = ![a, b])
    (inb : ∀ i, off i + (![h, w] : Fin 2 → ℕ) i ≤ (![n, k] : Fin 2 → ℕ) i) (x : (⟨2, ![h, w]⟩ : Shape).Idx)
    (i : (⟨2, ![n, k]⟩ : Shape).Idx) (h0 : (i 0).val = a + (x 0).val) (h1 : (i 1).val = b + (x 1).val) :
    (Rect.unit (s := (⟨2, ![n, k]⟩ : Shape)) off ![h, w] inb).emb x = i := by
  subst hoff
  funext j
  apply Fin.ext
  rw [Rect.emb_apply]
  fin_cases j
  · show a + 1 * (x 0).val = _; rw [one_mul]; exact h0.symm
  · show b + 1 * (x 1).val = _; rw [one_mul]; exact h1.symm

/-- The same coordinate by coordinate. -/
theorem emb_val {n k h w : ℕ} {off : Fin 2 → ℕ} (a b : ℕ) (hoff : off = ![a, b])
    (inb : ∀ i, off i + (![h, w] : Fin 2 → ℕ) i ≤ (![n, k] : Fin 2 → ℕ) i) (x : (⟨2, ![h, w]⟩ : Shape).Idx) :
    (((Rect.unit (s := (⟨2, ![n, k]⟩ : Shape)) off ![h, w] inb).emb x) 0).val = a + (x 0).val
      ∧ (((Rect.unit (s := (⟨2, ![n, k]⟩ : Shape)) off ![h, w] inb).emb x) 1).val = b + (x 1).val := by
  subst hoff
  constructor
  · show a + 1 * (x 0).val = _; rw [one_mul]
  · show b + 1 * (x 1).val = _; rw [one_mul]

/-! ## The two staged inputs, in bfloat16 -/

theorem zero_off {n : ℕ} (h : n = 2) : (![0, 0] : Fin 2 → ℕ) = fun _ => 0 := by funext i; fin_cases i <;> rfl

theorem ld_x (c : Dev nD) : xM.view.readAt (Elt F) (Rect.unit (s := S256x512) ![0, 0] S256x512.size inb_S256x512_S256x512_0_0).toLoadRect (xstg m c) = xstg m c :=
  Memref.readAt_unit_zero (Elt F) cc0_stg0_0 (zero_off rfl) _ _
theorem ld_w (c : Dev nD) : wM.view.readAt (Elt F) (Rect.unit (s := S512x4096) ![0, 0] S512x4096.size inb_S512x4096_S512x4096_0_0).toLoadRect (wstg m c) = wstg m c :=
  Memref.readAt_unit_zero (Elt F) cc0_stg1_0 (zero_off rfl) _ _
theorem ld_wb (f : FVec F S512x4096 .bf16) : wbM.view.readAt (Elt F) (Rect.unit (s := S512x4096) ![0, 0] S512x4096.size inb_S512x4096_S512x4096_0_0).toLoadRect f = f :=
  Memref.readAt_unit_zero (Elt F) cc0_scratch3 (zero_off rfl) _ _
theorem ld_e (f : FVec F S256x4096 .bf16) : eM.view.readAt (Elt F) (Rect.unit (s := S256x4096) ![0, 0] S256x4096.size inb_S256x4096_S256x4096_0_0).toLoadRect f = f :=
  Memref.readAt_unit_zero (Elt F) cc0_scratch0 (zero_off rfl) _ _
theorem st_xb (c : Dev nD) : (xbM.access (Rect.unit (s := S256x512) ![0, 0] S256x512.size inb_S256x512_S256x512_0_0)).read (Elt F) (X1 m c) = k0_pay1 (xstg m c) :=
  Memref.read_access_unit_zero (Elt F) cc0_scratch2 (zero_off rfl) _ _
theorem st_wb (c : Dev nD) : (wbM.access (Rect.unit (s := S512x4096) ![0, 0] S512x4096.size inb_S512x4096_S512x4096_0_0)).read (Elt F) (W1 m c) = k0_pay2 (wstg m c) :=
  Memref.read_access_unit_zero (Elt F) cc0_scratch3 (zero_off rfl) _ _
theorem st_r (c : Dev nD) : (rM.access (Rect.unit (s := S256x128) ![0, 0] S256x128.size inb_S256x128_S256x128_0_0)).read (Elt F) (RB m c)
    = k0_pay17 (col0 (Sm m c)) (col0 (Sm m (pP c))) :=
  Memref.read_access_unit_zero (Elt F) cc0_scratch4 (zero_off rfl) _ _

/-! ## A row block of the exponentials, and its sums -/

theorem ld_xrow (c : Dev nD) (r : Fin 4) :
    xbM.view.readAt (Elt F) (Rect.unit (s := S256x512) (k0_off1 c (BitVec.ofNat 32 r.val)) S64x512.size (k0_off1_inb c r)).toLoadRect (X1 m c)
      = xrow m c (bq c r) := by
  funext x
  exact congrArg (X1 m c) (emb_eq _ _ (off1_at c r) _ x _ rfl (Nat.zero_add _).symm)

theorem rowB_at (b : Fin 4) (r : Fin 64) (i : Fin 256) (h : i.val = 64 * b.val + r.val) : rowB i = b ∧ rowR i = r :=
  ⟨Fin.ext (by show i.val / 64 = _; omega), Fin.ext (by show i.val % 64 = _; omega)⟩

theorem st_e (c : Dev nD) (r : Fin 4) :
    (eM.access (Rect.unit (s := S256x4096) (k0_off2 c (BitVec.ofNat 32 r.val)) S64x4096.size (k0_off2_inb c r))).read (Elt F) (E m c)
      = k0_pay5 (k0_pay4 (xrow m c (bq c r)) (W1 m c)) := by
  funext x
  show E m c ((Rect.unit (s := S256x4096) (k0_off2 c (BitVec.ofNat 32 r.val)) S64x4096.size (k0_off2_inb c r)).emb x) = eblk m c (bq c r) x
  obtain ⟨h0, h1⟩ := emb_val _ _ (off2_at c r) (k0_off2_inb c r) x
  generalize hi : (Rect.unit (s := S256x4096) (k0_off2 c (BitVec.ofNat 32 r.val)) S64x4096.size (k0_off2_inb c r)).emb x = i
  have h0' : (i 0).val = 64 * (bq c r).val + (x 0).val := by rw [← hi]; exact h0
  have h1' : (i 1).val = 0 + (x 1).val := by rw [← hi]; exact h1
  obtain ⟨hB, hR⟩ := rowB_at (bq c r) (x 0) (i 0) h0'
  have h1'' : i 1 = x 1 := Fin.ext (h1'.trans (Nat.zero_add _))
  unfold E
  rw [hB, hR, h1'']
  exact congrArg (eblk m c (bq c r)) (ValueIdx.eq_ix2 x).symm

theorem st_s (c : Dev nD) (r : Fin 4) :
    (ssM.access (Rect.unit (s := S256x128) (k0_off3 c (BitVec.ofNat 32 r.val)) S64x128.size (k0_off3_inb c r))).read (Elt F) (Sm m c)
      = k0_pay6 (k0_pay3 (xrow m c (bq c r)) (W1 m c)) := by
  funext x
  show Sm m c ((Rect.unit (s := S256x128) (k0_off3 c (BitVec.ofNat 32 r.val)) S64x128.size (k0_off3_inb c r)).emb x) = sblk m c (bq c r) x
  obtain ⟨h0, h1⟩ := emb_val _ _ (off3_at c r) (k0_off3_inb c r) x
  generalize hi : (Rect.unit (s := S256x128) (k0_off3 c (BitVec.ofNat 32 r.val)) S64x128.size (k0_off3_inb c r)).emb x = i
  have h0' : (i 0).val = 64 * (bq c r).val + (x 0).val := by rw [← hi]; exact h0
  have h1' : (i 1).val = 0 + (x 1).val := by rw [← hi]; exact h1
  obtain ⟨hB, hR⟩ := rowB_at (bq c r) (x 0) (i 0) h0'
  have h1'' : i 1 = x 1 := Fin.ext (h1'.trans (Nat.zero_add _))
  unfold Sm
  rw [hB, hR, h1'']
  exact congrArg (sblk m c (bq c r)) (ValueIdx.eq_ix2 x).symm

/-! ## The scaled blocks -/

theorem ld_ss (f : FVec F S256x128 .f32) : ssM.view.readAt (Elt F) (Rect.unit (s := S256x128) ![0, 0] S256x1.size inb_S256x128_S256x1_0_0).toLoadRect f = col0 f := by
  funext x
  exact congrArg f (emb_eq (n := 256) (k := 128) (h := 256) (w := 1) 0 0 rfl _ x _ (Nat.zero_add _).symm (by have := ValueIdx.idx2_lt1 x; show 0 = 0 + (x 1).val; omega))
theorem ld_sr (f : FVec F S256x128 .f32) : srM.view.readAt (Elt F) (Rect.unit (s := S256x128) ![0, 0] S256x1.size inb_S256x128_S256x1_0_0).toLoadRect f = col0 f := by
  funext x
  exact congrArg f (emb_eq (n := 256) (k := 128) (h := 256) (w := 1) 0 0 rfl _ x _ (Nat.zero_add _).symm (by have := ValueIdx.idx2_lt1 x; show 0 = 0 + (x 1).val; omega))

/-- A column spread over the columns, read at an entry. -/
theorem spread_apply {α : Type} {h w : ℕ} (u : (⟨2, ![h, 1]⟩ : Shape).Idx → α) (hb : (⟨2, ![h, 1]⟩ : Shape).Broadcasts ⟨2, ![h, w]⟩)
    (x : (⟨2, ![h, w]⟩ : Shape).Idx) : broadcastTo ⟨2, ![h, w]⟩ u hb x = u (ix2 (x 0) 0) :=
  broadcastTo_apply u hb x _ fun a => by
    fin_cases a
    · show (x 0).val = if h = 1 then 0 else (x 0).val
      split
      · have := ValueIdx.idx2_lt0 x; omega
      · rfl
    · rfl

theorem RB_apply (c : Dev nD) (i : S256x128.Idx) : RB m c i = inv m c (ix2 (i 0) 0) := by
  show shapeCast S256x128 (broadcastTo S256x128 (shapeCast S256x1 (inv m c) shapeCasts_S256x1_S256x1) broadcasts_S256x1_S256x128)
    shapeCasts_S256x128_S256x128 i = _
  rw [shapeCast_self, shapeCast_self]
  exact spread_apply _ _ _

/-- An entry of the result in the other half's columns, from the entry of `G` and the reciprocal of its row. -/
theorem out_other (c : Dev nD) {h w : ℕ} (r0 c0 c1 : ℕ) {offo offg offr : Fin 2 → ℕ} (ho : offo = ![r0, c0]) (hg : offg = ![r0, c1]) (hr : offr = ![r0, 0])
    (inbo : ∀ i, offo i + (![h, w] : Fin 2 → ℕ) i ≤ (![256, 8192] : Fin 2 → ℕ) i)
    (inbg : ∀ i, offg i + (![h, w] : Fin 2 → ℕ) i ≤ (![256, 4096] : Fin 2 → ℕ) i)
    (inbr : ∀ i, offr i + (![h, 1] : Fin 2 → ℕ) i ≤ (![256, 128] : Fin 2 → ℕ) i)
    (hc : c0 = yn c + c1) (x : (⟨2, ![h, w]⟩ : Shape).Idx) :
    OUT m c ((Rect.unit (s := S256x8192) offo ![h, w] inbo).emb x)
      = FloatOps.mulf (FloatOps.extf .f32 bitsLt_bf16_f32 (G m c ((Rect.unit (s := S256x4096) offg ![h, w] inbg).emb x)))
          (RB m c ((Rect.unit (s := S256x128) offr ![h, 1] inbr).emb (ix2 (x 0) 0))) := by
  obtain ⟨ho0, ho1⟩ := emb_val _ _ ho inbo x
  obtain ⟨hg0, hg1⟩ := emb_val _ _ hg inbg x
  obtain ⟨hr0, hr1⟩ := emb_val _ _ hr inbr (ix2 (x 0) 0)
  generalize (Rect.unit (s := (⟨2, ![256, 8192]⟩ : Shape)) offo ![h, w] inbo).emb x = i at *
  generalize (Rect.unit (s := (⟨2, ![256, 4096]⟩ : Shape)) offg ![h, w] inbg).emb x = j at *
  generalize (Rect.unit (s := (⟨2, ![256, 128]⟩ : Shape)) offr ![h, 1] inbr).emb (ix2 (x 0) 0) = k at *
  have hj := ValueIdx.idx2_lt1 j
  have hy : yn c = 4096 * (1 - (c.val / 2) % 2) := by have := dev_lt c; show 4096 - 4096 * _ = _; omega
  unfold OUT
  rw [if_neg (by rw [ho1, hc, hy]; omega), RB_apply]
  have e1 : (ix2 (i 0) ⟨(i 1).val % 4096, Nat.mod_lt _ (by decide)⟩ : S256x4096.Idx) = j := by
    rw [ValueIdx.eq_ix2 j]
    congr 1
    · exact Fin.ext (ho0.trans hg0.symm)
    · apply Fin.ext
      show (i 1).val % 4096 = (j 1).val
      rw [ho1, hc, hy, Nat.add_assoc, ← hg1, Nat.mul_add_mod, Nat.mod_eq_of_lt hj]
  have e2 : i 0 = k 0 := Fin.ext (ho0.trans hr0.symm)
  rw [e1, e2]

/-- An entry in the own half's columns. -/
theorem out_own (c : Dev nD) {off : Fin 2 → ℕ} (ho : off = ![0, yo c]) (inb : ∀ i, off i + (![256, 4096] : Fin 2 → ℕ) i ≤ (![256, 8192] : Fin 2 → ℕ) i)
    (x : S256x4096.Idx) :
    OUT m c ((Rect.unit (s := S256x8192) off ![256, 4096] inb).emb x)
      = FloatOps.mulf (FloatOps.extf .f32 bitsLt_bf16_f32 (E m c x)) (inv m c (ix2 (x 0) 0)) := by
  obtain ⟨ho0, ho1⟩ := emb_val _ _ ho inb x
  generalize (Rect.unit (s := (⟨2, ![256, 8192]⟩ : Shape)) off ![256, 4096] inb).emb x = i at *
  have hj := ValueIdx.idx2_lt1 x
  unfold OUT
  have e1 : (ix2 (i 0) ⟨(i 1).val % 4096, Nat.mod_lt _ (by decide)⟩ : S256x4096.Idx) = x := by
    rw [ValueIdx.eq_ix2 x]
    congr 1
    · exact Fin.ext (ho0.trans (Nat.zero_add _))
    · apply Fin.ext
      show (i 1).val % 4096 = (x 1).val
      rw [ho1, Nat.mul_add_mod, Nat.mod_eq_of_lt hj]
  have e2 : i 0 = x 0 := Fin.ext (ho0.trans (Nat.zero_add _))
  rw [if_pos (by rw [ho1]; show (4096 * _ + _) / 4096 = _; omega), e1, e2]

theorem st_o0 (c : Dev nD) : (oM.access (Rect.unit (s := S256x8192) (k0_off5 c) S256x4096.size (k0_off5_inb c))).read (Elt F) (OUT m c)
    = k0_pay18 (col0 (Sm m c)) (col0 (Sm m (pP c))) (E m c) := by
  funext x
  refine (out_own m c (off5_at c) (k0_off5_inb c) x).trans ?_
  show _ = FloatOps.mulf _ (broadcastTo S256x4096 (inv m c) broadcasts_S256x1_S256x4096 x)
  rw [spread_apply]; rfl

/-- A stored block of the other half: the block of `G` times the column of reciprocals. -/
theorem st_other (c : Dev nD) {h w : ℕ} (r0 c0 c1 : ℕ) {offo offg offr : Fin 2 → ℕ} (ho : offo = ![r0, c0]) (hg : offg = ![r0, c1]) (hr : offr = ![r0, 0])
    (inbo : ∀ i, offo i + (![h, w] : Fin 2 → ℕ) i ≤ (![256, 8192] : Fin 2 → ℕ) i)
    (inbg : ∀ i, offg i + (![h, w] : Fin 2 → ℕ) i ≤ (![256, 4096] : Fin 2 → ℕ) i)
    (inbr : ∀ i, offr i + (![h, 1] : Fin 2 → ℕ) i ≤ (![256, 128] : Fin 2 → ℕ) i)
    (hb : (⟨2, ![h, 1]⟩ : Shape).Broadcasts ⟨2, ![h, w]⟩)
    (hc : c0 = yn c + c1) :
    (oM.access (Rect.unit (s := S256x8192) offo ![h, w] inbo)).read (Elt F) (OUT m c)
      = mulf (extf .f32 (gM.view.readAt (Elt F) (Rect.unit (s := S256x4096) offg ![h, w] inbg).toLoadRect (G m c)) bitsLt_bf16_f32)
          (broadcastTo ⟨2, ![h, w]⟩ (rM.view.readAt (Elt F) (Rect.unit (s := S256x128) offr ![h, 1] inbr).toLoadRect (RB m c)) hb) := by
  funext x
  refine (out_other m c r0 c0 c1 ho hg hr inbo inbg inbr hc x).trans ?_
  show _ = FloatOps.mulf _ (broadcastTo ⟨2, ![h, w]⟩ _ hb x)
  rw [spread_apply]; rfl

end Cert.SoftmaxProof

end
-- ==== Proof.K.Regions.lean ====
/-
# How the buffers are cut

The four row blocks of a buffer of 256 rows in the order device `c` works through them; the ten parts of `G`'s buffer the
copies fill; the ten parts of the result the stores fill. Each family is a partition, so holding the buffer is holding
the parts.
-/
module

public import proofs.«01_k».proof.Proof.K.Values
public import proofs.«01_k».proof.Proof.K.Rules

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The four row blocks' numbers are different, and there are no others. -/
theorem qs_ne : ∀ c : Dev nD, qN c ≠ qxN c ∧ qN c ≠ qzN c ∧ qN c ≠ qdN c ∧ qxN c ≠ qzN c ∧ qxN c ≠ qdN c ∧ qzN c ≠ qdN c := by decide
theorem qs_all : ∀ (c : Dev nD) (b : Fin 4), b.val = qN c ∨ b.val = qxN c ∨ b.val = qzN c ∨ b.val = qdN c := by decide

/-- The `r`-th row block in `c`'s order. -/
def rowS (k : ℕ) (r : Fin 4) (c : Dev nD) : Finset (⟨2, ![256, k]⟩ : Shape).Idx := blk (64 * (bq c r).val) 64 0 k
/-- The parts of the result in the order they are stored in. -/
def oS (j : Fin 10) (c : Dev nD) : Finset S256x8192.Idx := match j with
  | 0 => blk 0 256 (yo c) 4096
  | 1 => blk (64 * qN c) 64 (yn c) 4096
  | 2 => blk (64 * qxN c) 32 (yn c) 4096
  | 3 => blk (64 * qxN c + 32) 32 (yn c) 4096
  | 4 => blk (64 * qzN c) 32 (yn c) 4096
  | 5 => blk (64 * qzN c + 32) 32 (yn c) 4096
  | 6 => blk (64 * qdN c) 32 (yn c) 2048
  | 7 => blk (64 * qdN c + 32) 32 (yn c) 2048
  | 8 => blk (64 * qdN c) 32 (yn c + 2048) 2048
  | 9 => blk (64 * qdN c + 32) 32 (yn c + 2048) 2048

/-- Holding a whole buffer is holding the parts of a partition. -/
theorem parts_eq {ℓ : Loc nD τ sig} {n : ℕ} (K : Fin n → Finset (Idx ℓ)) (hd : ∀ i j, i ≠ j → ∀ x, x ∈ K i → x ∈ K j → False)
    (hc : ∀ x, ∃ j, x ∈ K j) (q : PosShare TreeShare) (f : Buf (Elt F) ℓ) :
    (ℓ ↦[Finset.univ]{q} f : sProp 𝕄) = bigSep Finset.univ fun j => ℓ ↦[K j]{q} f := by
  rw [← pointsTo_biUnion Finset.univ K fun i _ j _ hij => Finset.disjoint_left.2 fun x hi hj => hd i j hij x hi hj]
  have h : Finset.univ.biUnion K = (Finset.univ : Finset (Idx ℓ)) := by
    ext x; obtain ⟨j, hj⟩ := hc x
    exact ⟨fun _ => Finset.mem_univ _, fun _ => Finset.mem_biUnion.2 ⟨j, Finset.mem_univ _, hj⟩⟩
  rw [h]
theorem pt_parts {s : Shape} {e : EltTy} {c : Dev nD} {M : Memref sig .tc .vmem s e} {n : ℕ} (K : Fin n → Finset M.view.ty.Idx)
    (hd : ∀ i j, i ≠ j → ∀ x, x ∈ K i → x ∈ K j → False) (hc : ∀ x, ∃ j, x ∈ K j) (q : PosShare TreeShare) (f : M.view.ty.Contents (Elt F)) :
    (pt c M Finset.univ q f : sProp 𝕄) = bigSep Finset.univ fun j => pt c M (K j) q f :=
  parts_eq (ℓ := M.view.loc (c : Thread nD τ)) K hd hc q f

theorem bq_vals : ∀ c : Dev nD, ((bq c 0).val = qN c ∧ (bq c 1).val ≠ (bq c 0).val ∧ (bq c 2).val ≠ (bq c 0).val ∧ (bq c 3).val ≠ (bq c 0).val)
    ∧ (bq c 1).val ≠ (bq c 2).val ∧ (bq c 1).val ≠ (bq c 3).val ∧ (bq c 2).val ≠ (bq c 3).val := by decide
theorem bq_inj : ∀ (c : Dev nD) (i j : Fin 4), (bq c i).val = (bq c j).val → i = j := by decide
theorem bq_surj : ∀ (c : Dev nD) (b : Fin 4), ∃ j, (bq c j).val = b.val := by decide

theorem rowS_disj (k : ℕ) (c : Dev nD) (i j : Fin 4) (hij : i ≠ j) (x) (hi : x ∈ rowS k i c) (hj : x ∈ rowS k j c) : False := by
  unfold rowS at hi hj
  rw [mem_blk] at hi hj
  exact hij (bq_inj c i j (by omega))
theorem rowS_cover (k : ℕ) (c : Dev nD) (x) : ∃ j, x ∈ rowS k j c := by
  have h0 := ValueIdx.idx2_lt0 x
  have h1 := ValueIdx.idx2_lt1 x
  obtain ⟨j, hj⟩ := bq_surj c ⟨(x 0).val / 64, by omega⟩
  refine ⟨j, ?_⟩
  unfold rowS
  rw [mem_blk]
  have hj' : (bq c j).val = (x 0).val / 64 := hj
  omega

/-- What is used of the row blocks' numbers and of the halves' first columns. -/
structure Cut (q qx qz qd yo yn : ℕ) : Prop where
  n1 : q ≠ qx
  n2 : q ≠ qz
  n3 : q ≠ qd
  n4 : qx ≠ qz
  n5 : qx ≠ qd
  n6 : qz ≠ qd
  all : ∀ b, b < 4 → b = q ∨ b = qx ∨ b = qz ∨ b = qd
  y : yo = 0 ∧ yn = 4096 ∨ yo = 4096 ∧ yn = 0

theorem cut (c : Dev nD) : Cut (qN c) (qxN c) (qzN c) (qdN c) (yo c) (yn c) := by
  obtain ⟨h1, h2, h3, h4, h5, h6⟩ := qs_ne c
  refine ⟨h1, h2, h3, h4, h5, h6, fun b hb => qs_all c ⟨b, hb⟩, ?_⟩
  show 4096 * ((c.val / 2) % 2) = 0 ∧ 4096 - 4096 * ((c.val / 2) % 2) = 4096 ∨ 4096 * ((c.val / 2) % 2) = 4096 ∧ 4096 - 4096 * ((c.val / 2) % 2) = 0
  omega

theorem gD_disj (c : Dev nD) (i j : Fin 10) (hij : i ≠ j) (x : S256x4096.Idx) (hi : x ∈ gD i.castSucc c) (hj : x ∈ gD j.castSucc c) : False := by
  obtain ⟨n1, n2, n3, n4, n5, n6, -, -⟩ := cut c
  fin_cases i <;> fin_cases j <;> first
    | exact absurd rfl hij
    | (replace hi := mem_blk.1 hi; replace hj := mem_blk.1 hj; omega)
theorem gD_cover (c : Dev nD) (x : S256x4096.Idx) : ∃ j : Fin 10, x ∈ gD j.castSucc c := by
  have h0 := ValueIdx.idx2_lt0 x
  have h1 := ValueIdx.idx2_lt1 x
  rcases (cut c).all ((x 0).val / 64) (by omega) with h | h | h | h <;> by_cases hr : (x 0).val % 64 < 32
  · exact ⟨0, mem_blk.2 (by omega)⟩
  · exact ⟨1, mem_blk.2 (by omega)⟩
  · exact ⟨2, mem_blk.2 (by omega)⟩
  · exact ⟨3, mem_blk.2 (by omega)⟩
  · exact ⟨4, mem_blk.2 (by omega)⟩
  · exact ⟨5, mem_blk.2 (by omega)⟩
  · by_cases hc : (x 1).val < 2048
    · exact ⟨6, mem_blk.2 (by omega)⟩
    · exact ⟨8, mem_blk.2 (by omega)⟩
  · by_cases hc : (x 1).val < 2048
    · exact ⟨7, mem_blk.2 (by omega)⟩
    · exact ⟨9, mem_blk.2 (by omega)⟩

theorem oS_disj (c : Dev nD) (i j : Fin 10) (hij : i ≠ j) (x : S256x8192.Idx) (hi : x ∈ oS i c) (hj : x ∈ oS j c) : False := by
  obtain ⟨n1, n2, n3, n4, n5, n6, -, y⟩ := cut c
  fin_cases i <;> fin_cases j <;> first
    | exact absurd rfl hij
    | (replace hi := mem_blk.1 hi; replace hj := mem_blk.1 hj; omega)
theorem oS_cover (c : Dev nD) (x : S256x8192.Idx) : ∃ j : Fin 10, x ∈ oS j c := by
  have h0 := ValueIdx.idx2_lt0 x
  have h1 := ValueIdx.idx2_lt1 x
  have y := (cut c).y
  by_cases hy : yo c ≤ (x 1).val ∧ (x 1).val < yo c + 4096
  · exact ⟨0, mem_blk.2 (by omega)⟩
  rcases (cut c).all ((x 0).val / 64) (by omega) with h | h | h | h
  · exact ⟨1, mem_blk.2 (by omega)⟩
  all_goals by_cases hr : (x 0).val % 64 < 32
  · exact ⟨2, mem_blk.2 (by omega)⟩
  · exact ⟨3, mem_blk.2 (by omega)⟩
  · exact ⟨4, mem_blk.2 (by omega)⟩
  · exact ⟨5, mem_blk.2 (by omega)⟩
  · by_cases hc : (x 1).val < yn c + 2048
    · exact ⟨6, mem_blk.2 (by omega)⟩
    · exact ⟨8, mem_blk.2 (by omega)⟩
  · by_cases hc : (x 1).val < yn c + 2048
    · exact ⟨7, mem_blk.2 (by omega)⟩
    · exact ⟨9, mem_blk.2 (by omega)⟩

/-! ## The buffers as their parts -/

section Whole
variable (c : Dev nD) (q : PosShare TreeShare)

theorem e_parts (f : eM.view.ty.Contents (Elt F)) : (pt c eM Finset.univ q f : sProp 𝕄)
    = iprop(pt c eM (rowS 4096 0 c) q f ∗ pt c eM (rowS 4096 1 c) q f ∗ pt c eM (rowS 4096 2 c) q f ∗ pt c eM (rowS 4096 3 c) q f) :=
  (pt_parts (M := eM) (fun j => rowS 4096 j c) (rowS_disj 4096 c) (rowS_cover 4096 c) q f).trans
    (bigSep_univ_eq_bigSepL [0, 1, 2, 3] (by decide) (by decide) _)
theorem s_parts (f : ssM.view.ty.Contents (Elt F)) : (pt c ssM Finset.univ q f : sProp 𝕄)
    = iprop(pt c ssM (rowS 128 0 c) q f ∗ pt c ssM (rowS 128 1 c) q f ∗ pt c ssM (rowS 128 2 c) q f ∗ pt c ssM (rowS 128 3 c) q f) :=
  (pt_parts (M := ssM) (fun j => rowS 128 j c) (rowS_disj 128 c) (rowS_cover 128 c) q f).trans
    (bigSep_univ_eq_bigSepL [0, 1, 2, 3] (by decide) (by decide) _)
theorem g_parts (f : gM.view.ty.Contents (Elt F)) : (pt c gM Finset.univ q f : sProp 𝕄)
    = iprop(pt c gM (gD 0 c) q f ∗ pt c gM (gD 1 c) q f ∗ pt c gM (gD 2 c) q f ∗ pt c gM (gD 3 c) q f ∗ pt c gM (gD 4 c) q f
      ∗ pt c gM (gD 5 c) q f ∗ pt c gM (gD 6 c) q f ∗ pt c gM (gD 7 c) q f ∗ pt c gM (gD 8 c) q f ∗ pt c gM (gD 9 c) q f) :=
  (pt_parts (M := gM) (fun j : Fin 10 => gD j.castSucc c) (gD_disj c) (gD_cover c) q f).trans
    (bigSep_univ_eq_bigSepL [0, 1, 2, 3, 4, 5, 6, 7, 8, 9] (by decide) (by decide) _)
theorem o_parts (f : oM.view.ty.Contents (Elt F)) : (pt c oM Finset.univ q f : sProp 𝕄)
    = iprop(pt c oM (oS 0 c) q f ∗ pt c oM (oS 1 c) q f ∗ pt c oM (oS 2 c) q f ∗ pt c oM (oS 3 c) q f ∗ pt c oM (oS 4 c) q f
      ∗ pt c oM (oS 5 c) q f ∗ pt c oM (oS 6 c) q f ∗ pt c oM (oS 7 c) q f ∗ pt c oM (oS 8 c) q f ∗ pt c oM (oS 9 c) q f) :=
  (pt_parts (M := oM) (fun j : Fin 10 => oS j c) (oS_disj c) (oS_cover c) q f).trans
    (bigSep_univ_eq_bigSepL [0, 1, 2, 3, 4, 5, 6, 7, 8, 9] (by decide) (by decide) _)

/-! ## Parts cut once more -/

/-- Two parts that share no element and make up a third. -/
theorem pt_two {s : Shape} {e : EltTy} {M : Memref sig .tc .vmem s e} {U S T : Finset M.view.ty.Idx} (hu : ∀ x, x ∈ U ↔ x ∈ S ∨ x ∈ T)
    (hd : ∀ x, x ∈ S → x ∈ T → False) (f : M.view.ty.Contents (Elt F)) : (pt c M U q f : sProp 𝕄) = iprop(pt c M S q f ∗ pt c M T q f) := by
  have h : U = S ∪ T := by ext x; rw [Finset.mem_union]; exact hu x
  have hdj : Disjoint S T := Finset.disjoint_left.2 fun x => hd x
  exact BI.Entails.antisymm (pt_cut h hdj) (pt_uncut h hdj)

theorem own_rows (f : eM.view.ty.Contents (Elt F)) : (pt c eM (rowS 4096 0 c) q f : sProp 𝕄) = iprop(pt c eM (gD 0 c) q f ∗ pt c eM (gD 1 c) q f) := by
  have h := (bq_vals c).1.1
  refine pt_two (M := eM) c q (fun x => ?_) (fun x hi hj => ?_) f
  · unfold rowS gD; rw [mem_blk, mem_blk, mem_blk]; omega
  · unfold gD at hi hj; rw [mem_blk] at hi hj; omega
/-- The own row block of `G`'s buffer, -/
theorem own_g (f : gM.view.ty.Contents (Elt F)) : (pt c gM (blk (64 * qN c) 64 0 4096) q f : sProp 𝕄) = iprop(pt c gM (gD 0 c) q f ∗ pt c gM (gD 1 c) q f) := by
  refine pt_two (M := gM) c q (fun x => ?_) (fun x hi hj => ?_) f
  · unfold gD; rw [mem_blk, mem_blk, mem_blk]; omega
  · unfold gD at hi hj; rw [mem_blk] at hi hj; omega
/-- and a half row block of it by columns. -/
theorem cols_g (r : ℕ) (f : gM.view.ty.Contents (Elt F)) : (pt c gM (blk r 32 0 4096) q f : sProp 𝕄)
    = iprop(pt c gM (blk r 32 0 2048) q f ∗ pt c gM (blk r 32 2048 2048) q f) := by
  refine pt_two (M := gM) c q (fun x => ?_) (fun x hi hj => ?_) f
  · rw [mem_blk, mem_blk, mem_blk]; omega
  · rw [mem_blk] at hi hj; omega

end Whole

end Cert.SoftmaxProof

end
-- ==== Proof.K.Steps.lean ====
/-
# The copies and the accesses of the body

The two kinds of copy into `G`'s buffer and the copy of the row sums; the sets the body's slices cover.
-/
module

public import proofs.«01_k».proof.Proof.K.Regions
public import Idealize.ShloMosaic.Lib.SparseCore.ProtocolKit

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The sets -/

theorem sub_ld {b : Ref sig .tc} {r : Rect b.ty.shape} {S : Finset b.ty.shape.Idx} (h : r.set = S) :
    (Memref.whole b).view.setOn r.toLoadRect.set ⊆ S := by
  rw [ld_set, h]
theorem set_st {b : Ref sig .tc} {r : Rect b.ty.shape} {S : Finset b.ty.shape.Idx} (h : r.set = S) :
    ((Memref.whole b).access r).set = S := by
  rw [acc_set, h]

theorem rs2 (c : Dev nD) (r : Fin 4) : (Rect.unit (s := S256x4096) (k0_off2 c (BitVec.ofNat 32 r.val)) S64x4096.size (k0_off2_inb c r)).set = rowS 4096 r c :=
  set_unit _ _ (off2_at c r) _
theorem rs3 (c : Dev nD) (r : Fin 4) : (Rect.unit (s := S256x128) (k0_off3 c (BitVec.ofNat 32 r.val)) S64x128.size (k0_off3_inb c r)).set = rowS 128 r c :=
  set_unit _ _ (off3_at c r) _
theorem rs4_0 (c : Dev nD) : (Rect.unit (s := S256x4096) (k0_off4 c 0#32) S32x4096.size (k0_off4_inb c 0)).set = gD 0 c := set_unit _ _ (off4_at c 0) _
theorem rs4_1 (c : Dev nD) : (Rect.unit (s := S256x4096) (k0_off4 c 32#32) S32x4096.size (k0_off4_inb c 1)).set = gD 1 c := set_unit _ _ (off4_at c 1) _
theorem rs6 (c : Dev nD) : (Rect.unit (s := S256x4096) (k0_off6 c) S64x4096.size (k0_off6_inb c)).set = blk (64 * qN c) 64 0 4096 := set_unit _ _ (off6_at c) _
theorem rs10_0 (c : Dev nD) : (Rect.unit (s := S256x4096) (k0_off10 c 0#32) S32x2048.size (k0_off10_inb c 0)).set = blk (64 * qxN c) 32 2048 2048 := set_unit _ _ (off10_at c 0) _
theorem rs10_1 (c : Dev nD) : (Rect.unit (s := S256x4096) (k0_off10 c 32#32) S32x2048.size (k0_off10_inb c 1)).set = blk (64 * qxN c + 32) 32 2048 2048 := set_unit _ _ (off10_at c 1) _
theorem rs11_0 (c : Dev nD) : (Rect.unit (s := S256x4096) (k0_off11 c 0#32) S32x4096.size (k0_off11_inb c 0)).set = gD 2 c := set_unit _ _ (off11_at c 0) _
theorem rs11_1 (c : Dev nD) : (Rect.unit (s := S256x4096) (k0_off11 c 32#32) S32x4096.size (k0_off11_inb c 1)).set = gD 3 c := set_unit _ _ (off11_at c 1) _
theorem rs15_0 (c : Dev nD) : (Rect.unit (s := S256x4096) (k0_off15 c 0#32) S32x2048.size (k0_off15_inb c 0)).set = blk (64 * qzN c) 32 0 2048 := set_unit _ _ (off15_at c 0) _
theorem rs15_1 (c : Dev nD) : (Rect.unit (s := S256x4096) (k0_off15 c 32#32) S32x2048.size (k0_off15_inb c 1)).set = blk (64 * qzN c + 32) 32 0 2048 := set_unit _ _ (off15_at c 1) _
theorem rs16_0 (c : Dev nD) : (Rect.unit (s := S256x4096) (k0_off16 c 0#32) S32x4096.size (k0_off16_inb c 0)).set = gD 4 c := set_unit _ _ (off16_at c 0) _
theorem rs16_1 (c : Dev nD) : (Rect.unit (s := S256x4096) (k0_off16 c 32#32) S32x4096.size (k0_off16_inb c 1)).set = gD 5 c := set_unit _ _ (off16_at c 1) _
theorem rs20_0 (c : Dev nD) : (Rect.unit (s := S256x4096) (k0_off20 c 0#32) S32x2048.size (k0_off20_inb c 0)).set = gD 6 c := set_unit _ _ (off20_at c 0) _
theorem rs20_1 (c : Dev nD) : (Rect.unit (s := S256x4096) (k0_off20 c 32#32) S32x2048.size (k0_off20_inb c 1)).set = gD 7 c := set_unit _ _ (off20_at c 1) _
theorem rs24_0 (c : Dev nD) : (Rect.unit (s := S256x4096) (k0_off24 c 0#32) S32x2048.size (k0_off24_inb c 0)).set = gD 8 c := set_unit _ _ (off24_at c 0) _
theorem rs24_1 (c : Dev nD) : (Rect.unit (s := S256x4096) (k0_off24 c 32#32) S32x2048.size (k0_off24_inb c 1)).set = gD 9 c := set_unit _ _ (off24_at c 1) _
theorem rs5 (c : Dev nD) : (Rect.unit (s := S256x8192) (k0_off5 c) S256x4096.size (k0_off5_inb c)).set = oS 0 c := set_unit _ _ (off5_at c) _
theorem rs8 (c : Dev nD) : (Rect.unit (s := S256x8192) (k0_off8 c) S64x4096.size (k0_off8_inb c)).set = oS 1 c := set_unit _ _ (off8_at c) _
theorem rs13_0 (c : Dev nD) : (Rect.unit (s := S256x8192) (k0_off13 c 0#32) S32x4096.size (k0_off13_inb c 0)).set = oS 2 c := set_unit _ _ (off13_at c 0) _
theorem rs13_1 (c : Dev nD) : (Rect.unit (s := S256x8192) (k0_off13 c 32#32) S32x4096.size (k0_off13_inb c 1)).set = oS 3 c := set_unit _ _ (off13_at c 1) _
theorem rs18_0 (c : Dev nD) : (Rect.unit (s := S256x8192) (k0_off18 c 0#32) S32x4096.size (k0_off18_inb c 0)).set = oS 4 c := set_unit _ _ (off18_at c 0) _
theorem rs18_1 (c : Dev nD) : (Rect.unit (s := S256x8192) (k0_off18 c 32#32) S32x4096.size (k0_off18_inb c 1)).set = oS 5 c := set_unit _ _ (off18_at c 1) _
theorem rs22_0 (c : Dev nD) : (Rect.unit (s := S256x8192) (k0_off22 c 0#32) S32x2048.size (k0_off22_inb c 0)).set = oS 6 c := set_unit _ _ (off22_at c 0) _
theorem rs22_1 (c : Dev nD) : (Rect.unit (s := S256x8192) (k0_off22 c 32#32) S32x2048.size (k0_off22_inb c 1)).set = oS 7 c := set_unit _ _ (off22_at c 1) _
theorem rs25_0 (c : Dev nD) : (Rect.unit (s := S256x8192) (k0_off25 c 0#32) S32x2048.size (k0_off25_inb c 0)).set = oS 8 c := set_unit _ _ (off25_at c 0) _
theorem rs25_1 (c : Dev nD) : (Rect.unit (s := S256x8192) (k0_off25 c 32#32) S32x2048.size (k0_off25_inb c 1)).set = oS 9 c := set_unit _ _ (off25_at c 1) _

/-! ## The copies -/

theorem rPay_g (k : Fin 11) (hk : k ≠ 10) (c : Dev nD) : rPay m k c = pt c gM (gD k c) fullShare (G m c) := by
  fin_cases k <;> first | rfl | exact absurd rfl hk
theorem dPt_g (k : Fin 11) (hk : k ≠ 10) (c : Dev nD) : dPt (F := F) k c = iprop(∃ f, pt c gM (gD k c) fullShare f) := by
  fin_cases k <;> first | rfl | exact absurd rfl hk

section Copies
variable {α : Type} {Q : α → sProp (MT nD τ sig Unit (Elt F) ℕ UU ℕ)} {k' : PUnit → Prog (TpuEff nD τ sig (Elt F) Λ₀ .tc) α}

/-- What a copy from a part of a buffer shaped as `G`'s into the same part of `G`'s leaves there. -/
theorem copy_leaves {c : Dev nD} {h w : ℕ} {off : Fin 2 → ℕ} {inb : ∀ i, off i + (![h, w] : Fin 2 → ℕ) i ≤ (![256, 4096] : Fin 2 → ℕ) i}
    (S : Finset S256x4096.Idx) (hset : (Rect.unit (s := S256x4096) off ![h, w] inb).set = S) (fs g : FVec F S256x4096 .bf16) (hfg : ∀ i ∈ S, fs i = g i)
    (fd : FVec F S256x4096 .bf16) :
    (pt c gM S fullShare ((gM.view.slice (Rect.unit (s := S256x4096) off ![h, w] inb)).write (Elt F) fd
      ((gM.view.slice (Rect.unit (s := S256x4096) off ![h, w] inb)).read (Elt F) fs) Finset.univ) : sProp 𝕄) = pt c gM S fullShare g := by
  subst hset
  refine pt_congr fun i hi => ?_
  rw [View.write_read_eq_piecewise]
  have hi' : i ∈ ((View.whole cc0_scratch1).slice (Rect.unit (s := S256x4096) off ![h, w] inb)).set := by rw [View.set_slice_whole]; exact hi
  exact (Finset.piecewise_eq_of_mem _ _ _ hi').trans (hfg i hi)

/-- A copy out of the exponentials' buffer. -/
theorem wp_copy_e (k : Fin 11) (hk : k ≠ 10) (c n : Dev nD) (hn : n = peer k c) {a b : DmaSem sig} (ha : a = sidx k) (hb : b = ridx k)
    {h w : ℕ} {off : Fin 2 → ℕ} {inb : ∀ i, off i + (![h, w] : Fin 2 → ℕ) i ≤ (![256, 4096] : Fin 2 → ℕ) i} (S : Finset S256x4096.Idx)
    (hset : (Rect.unit (s := S256x4096) off ![h, w] inb).set = S) {q : PosShare TreeShare} {fs : FVec F S256x4096 .bf16}
    (hs : sPay m k c = pt c eM S q fs) (hg : gD k (peer k c) = S) (hfg : ∀ i ∈ S, fs i = G m (peer k c) i)
    {hsc h1 h2 h3} (hA : (gM.slice (Rect.unit (s := S256x4096) off ![h, w] inb) (fun _ => rfl)).view.dmaCredit = amt k) (l : List Due) :
    iprop(canSend m k c ∗ pt c eM S q fs ∗ dPt k (peer k c) ∗ ow c (oweL c (.cp k :: l)))
      ⊢ iprop(((sent m k c ∗ ow c (oweL c l)) -∗ wpc c (k' ⟨⟩) Q)
          -∗ wpc c (.op (.enqueueDma (eM.slice (Rect.unit (s := S256x4096) off ![h, w] inb) (fun _ => rfl))
              (.remote (Dev.tc n : Thread nD τ) (gM.slice (Rect.unit (s := S256x4096) off ![h, w] inb) (fun _ => rfl)) (.dma a) hsc) (.dma b) h1 h2 h3) k') Q) := by
  have he : (eM.slice (Rect.unit (s := S256x4096) off ![h, w] inb) (fun _ => rfl)).view.set = S := (View.set_slice_whole cc0_scratch0 _).trans hset
  have hge : (gM.slice (Rect.unit (s := S256x4096) off ![h, w] inb) (fun _ => rfl)).view.set = S := (View.set_slice_whole cc0_scratch1 _).trans hset
  rw [← hs]
  refine wp_copy m k c n hn ha hb hA q fs (by rw [he, hs]; rfl) (by rw [dPt_g k hk, hge, hg]; rfl) (fun fd => ?_) l
  rw [hge, rPay_g m k hk, hg]
  exact Entails.of_eq (copy_leaves S hset fs _ hfg fd)

/-- A copy out of `G`'s buffer. -/
theorem wp_copy_gg (k : Fin 11) (hk : k ≠ 10) (c n : Dev nD) (hn : n = peer k c) {a b : DmaSem sig} (ha : a = sidx k) (hb : b = ridx k)
    {h w : ℕ} {off : Fin 2 → ℕ} {inb : ∀ i, off i + (![h, w] : Fin 2 → ℕ) i ≤ (![256, 4096] : Fin 2 → ℕ) i} (S : Finset S256x4096.Idx)
    (hset : (Rect.unit (s := S256x4096) off ![h, w] inb).set = S) {q : PosShare TreeShare} {fs : FVec F S256x4096 .bf16}
    (hs : sPay m k c = pt c gM S q fs) (hg : gD k (peer k c) = S) (hfg : ∀ i ∈ S, fs i = G m (peer k c) i)
    {hsc h1 h2 h3} (hA : (gM.slice (Rect.unit (s := S256x4096) off ![h, w] inb) (fun _ => rfl)).view.dmaCredit = amt k) (l : List Due) :
    iprop(canSend m k c ∗ pt c gM S q fs ∗ dPt k (peer k c) ∗ ow c (oweL c (.cp k :: l)))
      ⊢ iprop(((sent m k c ∗ ow c (oweL c l)) -∗ wpc c (k' ⟨⟩) Q)
          -∗ wpc c (.op (.enqueueDma (gM.slice (Rect.unit (s := S256x4096) off ![h, w] inb) (fun _ => rfl))
              (.remote (Dev.tc n : Thread nD τ) (gM.slice (Rect.unit (s := S256x4096) off ![h, w] inb) (fun _ => rfl)) (.dma a) hsc) (.dma b) h1 h2 h3) k') Q) := by
  have hge : (gM.slice (Rect.unit (s := S256x4096) off ![h, w] inb) (fun _ => rfl)).view.set = S := (View.set_slice_whole cc0_scratch1 _).trans hset
  rw [← hs]
  refine wp_copy m k c n hn ha hb hA q fs (by rw [hge, hs]; rfl) (by rw [dPt_g k hk, hge, hg]; rfl) (fun fd => ?_) l
  rw [hge, rPay_g m k hk, hg]
  exact Entails.of_eq (copy_leaves S hset fs _ hfg fd)

/-- The copy of the row sums. -/
theorem wp_copy_s (c n : Dev nD) (hn : n = peer 10 c) {a b : DmaSem sig} (ha : a = sidx 10) (hb : b = ridx 10) {hsc h1 h2 h3} (l : List Due) :
    iprop(canSend m 10 c ∗ pt c ssM Finset.univ fullShare.left (Sm m c) ∗ dPt 10 (peer 10 c) ∗ ow c (oweL c (.cp 10 :: l)))
      ⊢ iprop(((sent m 10 c ∗ ow c (oweL c l)) -∗ wpc c (k' ⟨⟩) Q)
          -∗ wpc c (.op (.enqueueDma ssM (.remote (Dev.tc n : Thread nD τ) srM (.dma a) hsc) (.dma b) h1 h2 h3) k') Q) := by
  have h1 : ssM.view.set = Finset.univ := View.set_whole cc0_scratch5
  have h2 : srM.view.set = Finset.univ := View.set_whole cc0_scratch6
  refine wp_copy m 10 c n hn ha hb (src := ssM) (dst := srM) rfl fullShare.left (Sm m c) (by rw [h1]; rfl) (by rw [h2]; rfl) (fun fd => ?_) l
  rw [h2]
  show pt (pP c) srM Finset.univ fullShare _ ⊢ pt (pP c) srM Finset.univ fullShare (Sm m (pP (pP c)))
  rw [pP_pP]
  refine Entails.of_eq (pt_congr fun i hi => ?_)
  exact congrFun (View.write_whole_univ (Val := Elt F) cc0_scratch6 fd (Sm m c)) i

end Copies

end Cert.SoftmaxProof

end
-- ==== Proof.K.PartsA.lean ====
/-
# The body, first part: the barrier, the exponentials, the exchange with the device of the other `y`

One lemma per piece of the body: from what the piece uses, whatever runs after it need only be shown from what the piece
leaves.
-/
module

public import proofs.«01_k».proof.Proof.K.Steps

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- A piece of the body at the buffers and the semaphores it runs on. -/
abbrev app {β : Type 1} (p : (arg0 : Memref sig .tc .vmem S256x512 .f32) → arg0.IsWhole → (arg1 : Memref sig .tc .vmem S512x4096 .f32) → arg1.IsWhole
    → (arg2 : Memref sig .tc .vmem S256x8192 .f32) → arg2.IsWhole → (arg3 : Memref sig .tc .vmem S256x4096 .bf16) → arg3.IsWhole
    → (arg4 : Memref sig .tc .vmem S256x4096 .bf16) → arg4.IsWhole → (arg5 : Memref sig .tc .vmem S256x512 .bf16) → arg5.IsWhole
    → (arg6 : Memref sig .tc .vmem S512x4096 .bf16) → arg6.IsWhole → (arg7 : Memref sig .tc .vmem S256x128 .f32) → arg7.IsWhole
    → (arg8 : Memref sig .tc .vmem S256x128 .f32) → arg8.IsWhole → (arg9 : Memref sig .tc .vmem S256x128 .f32) → arg9.IsWhole
    → DmaSems sig S2 → DmaSems sig S2 → DmaSems sig S2 → DmaSems sig S2 → DmaSems sig S2 → DmaSems sig S2 → DmaSems sig S2 → DmaSems sig S2
    → DmaSems sig S2 → DmaSems sig S2 → DmaSems sig S_ → DmaSems sig S_ → β) : β :=
  p xM (Memref.isWhole_whole _) wM (Memref.isWhole_whole _) oM (Memref.isWhole_whole _) eM (Memref.isWhole_whole _) gM (Memref.isWhole_whole _)
    xbM (Memref.isWhole_whole _) wbM (Memref.isWhole_whole _) rM (Memref.isWhole_whole _) ssM (Memref.isWhole_whole _) srM (Memref.isWhole_whole _)
    cc0_scratch7 cc0_scratch8 cc0_scratch9 cc0_scratch10 cc0_scratch11 cc0_scratch12 cc0_scratch13 cc0_scratch14 cc0_scratch15 cc0_scratch16
    cc0_scratch17 cc0_scratch18

/-! ## The dues still to be paid, from the last on -/

abbrev l1 : List Due := [.cp 7]
abbrev l2 : List Due := .cp 9 :: l1
abbrev l3 : List Due := .cp 6 :: l2
abbrev l4 : List Due := .cp 8 :: l3
abbrev l5 : List Due := .cp 5 :: l4
abbrev l6 : List Due := .cp 3 :: l5
abbrev l7 : List Due := .cp 4 :: l6
abbrev l8 : List Due := .cp 2 :: l7
abbrev l9 : List Due := .cp 10 :: l8
abbrev l10 : List Due := .cp 1 :: l9
abbrev l11 : List Due := .cp 0 :: l10
abbrev l12 : List Due := .sig 2 :: l11
abbrev l13 : List Due := .sig 1 :: l12

/-- The barrier's semaphore as the body names it. -/
abbrev barA : Sems sig S_ := SemArray.scalar (sig.barrier 0 rfl)

theorem blk_all {n k : ℕ} : (blk 0 n 0 k : Finset (⟨2, ![n, k]⟩ : Shape).Idx) = Finset.univ :=
  Finset.eq_univ_of_forall fun i => mem_blk.2 ⟨⟨Nat.zero_le _, by have := ValueIdx.idx2_lt0 i; omega⟩, ⟨Nat.zero_le _, by have := ValueIdx.idx2_lt1 i; omega⟩⟩

section
variable (c : Dev nD)

/-- A piece that has come to its end. -/
theorem wpc_ret {β : Type} {a : β} {R : β → sProp (MT nD τ sig Unit (Elt F) ℕ UU ℕ)} : R a ⊢ wpc c (.ret a) R := by
  show R a ⊢ wp frame (wpE (defs₀ (F := F)) 𝒱₀ (c : Thread nD τ) none) Set.univ (.ret a) R
  rw [wp_ret]; exact fupd_intro

/-- The first signal. -/
theorem part1 (R : _ → sProp (MT nD τ sig Unit (Elt F) ℕ UU ℕ)) :
    iprop(canSig m 0 c ∗ give 0 c ∗ ow c (oweL c dues))
      ⊢ iprop((∀ v2 v5 v8 v9 v10 v11 v13 v16 v19 v23 v32, ow c (oweL c l13) -∗ R ⟨c, v2, v5, v8, v9, v10, v11, v13, v16, v19, v23, barA, v32⟩)
        -∗ wpc c (app (k0_part1 (F := F))) R) := by
  unfold app
  rw [k0_part1_eq_skeleton]; unfold k0_part1_skel
  simp only [semSignalWord, semWaitWord, Prog.lift, Prog.bind_op, Prog.bind_ret, Prog.pure_eq_ret, wp_deviceId]
  iintro ⟨H1, H2, H3⟩ Hk
  iapplyF (wp_sig m 0 c _ (dev1_eq c) rfl l13)
  iintro Ho
  iapply (wpc_ret c)
  iapply Hk
  iexact Ho

/-- The other two signals, the barrier; `x` and `W` in bfloat16; the first row block's exponentials. -/
theorem part2 (v2 v5 v8 v11 v13 v32 : BitVec 32) (R : _ → sProp (MT nD τ sig Unit (Elt F) ℕ UU ℕ)) :
    iprop(canSig m 1 c ∗ give 1 c ∗ canSig m 2 c ∗ give 2 c ∗ canBar m c ∗ levAts L lv ∗ ow c (oweL c l13)
        ∗ pt c xM Finset.univ fullShare (xstg m c) ∗ pt c wM Finset.univ fullShare (wstg m c)
        ∗ (∃ f, pt c xbM Finset.univ fullShare f) ∗ (∃ f, pt c wbM Finset.univ fullShare f))
      ⊢ iprop((∀ v57, (ow c (oweL c l11) ∗ semVal (barCell c) 0 ∗ give 0 (pP c) ∗ give 1 (pX c) ∗ give 2 (pZ c)
          ∗ pt c xM Finset.univ fullShare (xstg m c) ∗ pt c wM Finset.univ fullShare (wstg m c)
          ∗ pt c xbM Finset.univ fullShare (X1 m c) ∗ pt c wbM Finset.univ fullShare (W1 m c))
            -∗ R ⟨v57, k0_pay3 (xrow m c (bq c 0)) (W1 m c), k0_pay4 (xrow m c (bq c 0)) (W1 m c)⟩)
        -∗ wpc c (app (k0_part2 (F := F)) c v2 v5 v8 v11 v13 barA v32) R) := by
  unfold app
  rw [k0_part2_eq_skeleton]; unfold k0_part2_skel
  simp only [semSignalWord, semWaitWord, Prog.lift, Prog.bind_op, Prog.bind_ret, Prog.pure_eq_ret, wp_deviceId]
  iintro ⟨H1, H2, H3, H4, Hb, #Hlev, Ho, Hx, Hw, ⟨%f1, Hxb⟩, ⟨%f2, Hwb⟩⟩ Hk
  iapplyF (wp_sig m 1 c _ (dev2_eq c) rfl l12)
  iintro Ho
  iapplyF (wp_sig m 2 c _ (dev3_eq c) rfl l11)
  iintro Ho
  iapplyF (wp_bar m c rfl l11 (by decide))
  iintro ⟨Ho, Hz, Hg0, Hg1, Hg2⟩
  iapply (wp_ld (M := xM) (Finset.subset_univ _) (ld_x m c)) $$ Hx; iintro Hx
  iapply (wp_ld (M := xbM) (Finset.subset_univ _) rfl) $$ Hxb; iintro Hxb
  iapply (wp_st (M := xbM) (set_st ((set_unit 0 0 rfl _).trans blk_all)) (X1 m c) (st_xb m c)) $$ Hxb; iintro Hxb
  iapply (wp_ld (M := wM) (Finset.subset_univ _) (ld_w m c)) $$ Hw; iintro Hw
  iapply (wp_ld (M := wbM) (Finset.subset_univ _) rfl) $$ Hwb; iintro Hwb
  iapply (wp_st (M := wbM) (set_st ((set_unit 0 0 rfl _).trans blk_all)) (W1 m c) (st_wb m c)) $$ Hwb; iintro Hwb
  iapply (wp_ld (M := xbM) (Finset.subset_univ _) (ld_xrow m c 0)) $$ Hxb; iintro Hxb
  iapply (wp_ld (M := wbM) (Finset.subset_univ _) (ld_wb _)) $$ Hwb; iintro Hwb
  iapply (wpc_ret c)
  iapply Hk
  iframe

/-! ## What the copies count -/

theorem cr4 {off : Fin 2 → ℕ} (inb : ∀ i, off i + (![32, 4096] : Fin 2 → ℕ) i ≤ (![256, 4096] : Fin 2 → ℕ) i) :
    (gM.slice (Rect.unit (s := S256x4096) off ![32, 4096] inb) (fun _ => rfl)).view.dmaCredit = A4 := rfl
theorem cr2 {off : Fin 2 → ℕ} (inb : ∀ i, off i + (![32, 2048] : Fin 2 → ℕ) i ≤ (![256, 4096] : Fin 2 → ℕ) i) :
    (gM.slice (Rect.unit (s := S256x4096) off ![32, 2048] inb) (fun _ => rfl)).view.dmaCredit = A2 := rfl

/-! ## Where the copies go -/

theorem gd0 : gD 0 (pP c) = gD 0 c := by unfold gD; rw [qN_pP]
theorem gd1 : gD 1 (pP c) = gD 1 c := by unfold gD; rw [qN_pP]
theorem gd2 : gD 2 (pX c) = gD 0 c := by unfold gD; rw [qxN_pX]
theorem gd3 : gD 3 (pX c) = gD 1 c := by unfold gD; rw [qxN_pX]
theorem gd4 : gD 4 (pZ c) = gD 0 c := by unfold gD; rw [qzN_pZ]
theorem gd5 : gD 5 (pZ c) = gD 1 c := by unfold gD; rw [qzN_pZ]
theorem gd6 : gD 6 (pX c) = blk (64 * qzN c) 32 0 2048 := by unfold gD; rw [qdN_pX]
theorem gd7 : gD 7 (pX c) = blk (64 * qzN c + 32) 32 0 2048 := by unfold gD; rw [qdN_pX]
theorem gd8 : gD 8 (pZ c) = blk (64 * qxN c) 32 2048 2048 := by unfold gD; rw [qdN_pZ]
theorem gd9 : gD 9 (pZ c) = blk (64 * qxN c + 32) 32 2048 2048 := by unfold gD; rw [qdN_pZ]

theorem eg0 (i : S256x4096.Idx) (hi : i ∈ gD 0 c) : E m c i = G m (pP c) i :=
  (G_pP m c i (by unfold gD at hi; rw [mem_blk] at hi; omega)).symm
theorem eg1 (i : S256x4096.Idx) (hi : i ∈ gD 1 c) : E m c i = G m (pP c) i :=
  (G_pP m c i (by unfold gD at hi; rw [mem_blk] at hi; omega)).symm

/-- The first row block's exponentials and sums; the copy of its first half. -/
theorem part3 (v2 v8 v9 v13 v57 : BitVec 32) (R : _ → sProp (MT nD τ sig Unit (Elt F) ℕ UU ℕ)) :
    iprop((∃ f, pt c eM (rowS 4096 0 c) fullShare f) ∗ (∃ f, pt c ssM (rowS 128 0 c) fullShare f) ∗ canSend m 0 c ∗ dPt 0 (peer 0 c) ∗ ow c (oweL c l11))
      ⊢ iprop((∀ v, (ow c (oweL c l10) ∗ sent m 0 c ∗ pt c eM (gD 0 c) fullShare.right (E m c) ∗ pt c eM (gD 1 c) fullShare (E m c)
          ∗ pt c ssM (rowS 128 0 c) fullShare (Sm m c)) -∗ R v)
        -∗ wpc c (app (k0_part3 (F := F)) c v2 v8 v9 v13 v57 (k0_pay3 (xrow m c (bq c 0)) (W1 m c)) (k0_pay4 (xrow m c (bq c 0)) (W1 m c))) R) := by
  unfold app
  rw [k0_part3_eq_skeleton]; unfold k0_part3_skel
  simp only [Prog.lift, Prog.bind_op, Prog.bind_ret, Prog.pure_eq_ret]
  iintro ⟨⟨%f, He⟩, ⟨%g, Hs⟩, Hc, Hd, Ho⟩ Hk
  iapply (wp_ld (M := eM) (sub_ld (rs2 c 0)) rfl) $$ He; iintro He
  iapply (wp_st (M := eM) (set_st (rs2 c 0)) (E m c) (st_e m c 0)) $$ He; iintro He
  iapply (wp_ld (M := ssM) (sub_ld (rs3 c 0)) rfl) $$ Hs; iintro Hs
  iapply (wp_st (M := ssM) (set_st (rs3 c 0)) (Sm m c) (st_s m c 0)) $$ Hs; iintro Hs
  ihave He' := (Entails.of_eq (own_rows c _ _)) $$ He
  icases He' with ⟨He0, He1⟩
  ihave He' := pt_half $$ He0
  icases He' with ⟨Hl, Hr⟩
  iapply (wp_copy_e m 0 (by decide) c _ (dev4_eq c) rfl rfl (gD 0 c) (rs4_0 c) rfl (gd0 c) (eg0 m c) (cr4 _) l10) $$ [Hl Hc Hd Ho]
  · isplitl [Hc]; · iexact Hc
    isplitl [Hl]; · iexact Hl
    isplitl [Hd]; · iexact Hd
    iexact Ho
  iintro ⟨Hsent, Ho⟩
  iapply (wpc_ret c)
  iapply Hk
  iframe

/-- The copy of its second half; the second row block's exponentials and sums. -/
theorem part4 (v8 v9 v13 v97 : BitVec 32) (R : _ → sProp (MT nD τ sig Unit (Elt F) ℕ UU ℕ)) :
    iprop(canSend m 1 c ∗ pt c eM (gD 1 c) fullShare (E m c) ∗ dPt 1 (peer 1 c) ∗ ow c (oweL c l10)
        ∗ pt c xbM Finset.univ fullShare (X1 m c) ∗ pt c wbM Finset.univ fullShare (W1 m c)
        ∗ (∃ f, pt c eM (rowS 4096 1 c) fullShare f) ∗ (∃ f, pt c ssM (rowS 128 1 c) fullShare f))
      ⊢ iprop((∀ v, (ow c (oweL c l9) ∗ sent m 1 c ∗ pt c eM (gD 1 c) fullShare.right (E m c)
          ∗ pt c xbM Finset.univ fullShare (X1 m c) ∗ pt c wbM Finset.univ fullShare (W1 m c)
          ∗ pt c eM (rowS 4096 1 c) fullShare (E m c) ∗ pt c ssM (rowS 128 1 c) fullShare (Sm m c)) -∗ R ⟨v, xrow m c (bq c 2), W1 m c⟩)
        -∗ wpc c (app (k0_part4 (F := F)) c v8 v9 v13 v97) R) := by
  unfold app
  rw [k0_part4_eq_skeleton]; unfold k0_part4_skel
  simp only [Prog.lift, Prog.bind_op, Prog.bind_ret, Prog.pure_eq_ret]
  iintro ⟨Hc, He1, Hd, Ho, Hxb, Hwb, ⟨%f, He⟩, ⟨%g, Hs⟩⟩ Hk
  ihave He' := pt_half $$ He1
  icases He' with ⟨Hl, Hr⟩
  iapply (wp_copy_e m 1 (by decide) c _ (dev5_eq c) rfl rfl (gD 1 c) (rs4_1 c) rfl (gd1 c) (eg1 m c) (cr4 _) l9) $$ [Hl Hc Hd Ho]
  · isplitl [Hc]; · iexact Hc
    isplitl [Hl]; · iexact Hl
    isplitl [Hd]; · iexact Hd
    iexact Ho
  iintro ⟨Hsent, Ho⟩
  iapply (wp_ld (M := xbM) (Finset.subset_univ _) (ld_xrow m c 1)) $$ Hxb; iintro Hxb
  iapply (wp_ld (M := wbM) (Finset.subset_univ _) (ld_wb _)) $$ Hwb; iintro Hwb
  iapply (wp_ld (M := eM) (sub_ld (rs2 c 1)) rfl) $$ He; iintro He
  iapply (wp_st (M := eM) (set_st (rs2 c 1)) (E m c) (st_e m c 1)) $$ He; iintro He
  iapply (wp_ld (M := ssM) (sub_ld (rs3 c 1)) rfl) $$ Hs; iintro Hs
  iapply (wp_st (M := ssM) (set_st (rs3 c 1)) (Sm m c) (st_s m c 1)) $$ Hs; iintro Hs
  iapply (wp_ld (M := xbM) (Finset.subset_univ _) (ld_xrow m c 2)) $$ Hxb; iintro Hxb
  iapply (wp_ld (M := wbM) (Finset.subset_univ _) (ld_wb _)) $$ Hwb; iintro Hwb
  iapply (wpc_ret c)
  iapply Hk
  iframe

/-- The third and the fourth row block's. -/
theorem part5 (v2 v9 v13 v131 : BitVec 32) (R : _ → sProp (MT nD τ sig Unit (Elt F) ℕ UU ℕ)) :
    iprop(pt c xbM Finset.univ fullShare (X1 m c) ∗ pt c wbM Finset.univ fullShare (W1 m c)
        ∗ (∃ f, pt c eM (rowS 4096 2 c) fullShare f) ∗ (∃ f, pt c ssM (rowS 128 2 c) fullShare f)
        ∗ (∃ f, pt c eM (rowS 4096 3 c) fullShare f) ∗ (∃ f, pt c ssM (rowS 128 3 c) fullShare f))
      ⊢ iprop((∀ v w, (pt c xbM Finset.univ fullShare (X1 m c) ∗ pt c wbM Finset.univ fullShare (W1 m c)
          ∗ pt c eM (rowS 4096 2 c) fullShare (E m c) ∗ pt c ssM (rowS 128 2 c) fullShare (Sm m c)
          ∗ pt c eM (rowS 4096 3 c) fullShare (E m c) ∗ pt c ssM (rowS 128 3 c) fullShare (Sm m c)) -∗ R ⟨v, w⟩)
        -∗ wpc c (app (k0_part5 (F := F)) c v2 v9 v13 v131 (xrow m c (bq c 2)) (W1 m c)) R) := by
  unfold app
  rw [k0_part5_eq_skeleton]; unfold k0_part5_skel
  simp only [Prog.lift, Prog.bind_op, Prog.bind_ret, Prog.pure_eq_ret]
  iintro ⟨Hxb, Hwb, ⟨%f2, He2⟩, ⟨%g2, Hs2⟩, ⟨%f3, He3⟩, ⟨%g3, Hs3⟩⟩ Hk
  iapply (wp_ld (M := eM) (sub_ld (rs2 c 2)) rfl) $$ He2; iintro He2
  iapply (wp_st (M := eM) (set_st (rs2 c 2)) (E m c) (st_e m c 2)) $$ He2; iintro He2
  iapply (wp_ld (M := ssM) (sub_ld (rs3 c 2)) rfl) $$ Hs2; iintro Hs2
  iapply (wp_st (M := ssM) (set_st (rs3 c 2)) (Sm m c) (st_s m c 2)) $$ Hs2; iintro Hs2
  iapply (wp_ld (M := xbM) (Finset.subset_univ _) (ld_xrow m c 3)) $$ Hxb; iintro Hxb
  iapply (wp_ld (M := wbM) (Finset.subset_univ _) (ld_wb _)) $$ Hwb; iintro Hwb
  iapply (wp_ld (M := eM) (sub_ld (rs2 c 3)) rfl) $$ He3; iintro He3
  iapply (wp_st (M := eM) (set_st (rs2 c 3)) (E m c) (st_e m c 3)) $$ He3; iintro He3
  iapply (wp_ld (M := ssM) (sub_ld (rs3 c 3)) rfl) $$ Hs3; iintro Hs3
  iapply (wp_st (M := ssM) (set_st (rs3 c 3)) (Sm m c) (st_s m c 3)) $$ Hs3; iintro Hs3
  iapply (wpc_ret c)
  iapply Hk
  iframe

/-- The copy of the row sums; the wait for the first half row block from the other `y`. -/
theorem part6 (v2 v5 v8 v9 v10 v13 v172 v173 : BitVec 32) (R : _ → sProp (MT nD τ sig Unit (Elt F) ℕ UU ℕ)) :
    iprop(canSend m 10 c ∗ pt c ssM Finset.univ fullShare (Sm m c) ∗ dPt 10 (peer 10 c) ∗ ow c (oweL c l9) ∗ canRecv m 0 c ∗ levAts L lv)
      ⊢ iprop(((ow c (oweL c l8) ∗ sent m 10 c ∗ pt c ssM Finset.univ fullShare.right (Sm m c) ∗ semVal (rcell 0 c) 0 ∗ rPay m 0 c) -∗ R ⟨⟩)
        -∗ wpc c (app (k0_part6 (F := F)) c v2 v5 v8 v9 v10 v13 v172 v173) R) := by
  unfold app
  rw [k0_part6_eq_skeleton]; unfold k0_part6_skel
  simp only [Prog.lift, Prog.bind_op, Prog.bind_ret, Prog.pure_eq_ret]
  iintro ⟨Hc, Hs, Hd, Ho, Hr, #Hlev⟩ Hk
  ihave Hs' := pt_half $$ Hs
  icases Hs' with ⟨Hl, Hsr⟩
  iapply (wp_copy_s m c _ (dev6_eq c) rfl rfl l8) $$ [Hl Hc Hd Ho]
  · isplitl [Hc]; · iexact Hc
    isplitl [Hl]; · iexact Hl
    isplitl [Hd]; · iexact Hd
    iexact Ho
  iintro ⟨Hsent, Ho⟩
  iapplyF (wp_arr m 0 c rfl (cr4 _) l8 (by decide))
  iintro ⟨Ho, Hz, Hp⟩
  iapply (wpc_ret c)
  iapply Hk
  iframe

/-- It is sent on to the other `x` and the other `z`; the wait for the second half. -/
theorem part7 (v2 v5 v8 v9 v11 v13 : BitVec 32) (R : _ → sProp (MT nD τ sig Unit (Elt F) ℕ UU ℕ)) :
    iprop(canSend m 2 c ∗ canSend m 4 c ∗ rPay m 0 c ∗ dPt 2 (peer 2 c) ∗ dPt 4 (peer 4 c) ∗ ow c (oweL c l8) ∗ canRecv m 1 c ∗ levAts L lv)
      ⊢ iprop((∀ v w, (ow c (oweL c l6) ∗ sent m 2 c ∗ sent m 4 c ∗ pt c gM (gD 0 c) fullShare.right.right (G m c) ∗ semVal (rcell 1 c) 0 ∗ rPay m 1 c) -∗ R ⟨v, w⟩)
        -∗ wpc c (app (k0_part7 (F := F)) c v2 v5 v8 v9 v11 v13) R) := by
  unfold app
  rw [k0_part7_eq_skeleton]; unfold k0_part7_skel
  simp only [Prog.lift, Prog.bind_op, Prog.bind_ret, Prog.pure_eq_ret]
  iintro ⟨Hc2, Hc4, Hp, Hd2, Hd4, Ho, Hr, #Hlev⟩ Hk
  ihave Hp' := (Entails.of_eq (rPay_g m 0 (by decide) c)) $$ Hp
  ihave Hp' := pt_half $$ Hp'
  icases Hp' with ⟨Hl, Hp'⟩
  ihave Hp' := pt_half $$ Hp'
  icases Hp' with ⟨Hl', Hp'⟩
  iapply (wp_copy_gg m 2 (by decide) c _ (dev7_eq c) rfl rfl (gD 0 c) (rs4_0 c) rfl (gd2 c) (fun i _ => (congrFun (G_pX m c) i).symm) (cr4 _) l7) $$ [Hl Hc2 Hd2 Ho]
  · isplitl [Hc2]; · iexact Hc2
    isplitl [Hl]; · iexact Hl
    isplitl [Hd2]; · iexact Hd2
    iexact Ho
  iintro ⟨Hs2, Ho⟩
  iapply (wp_copy_gg m 4 (by decide) c _ (dev8_eq c) rfl rfl (gD 0 c) (rs4_0 c) rfl (gd4 c) (fun i _ => (congrFun (G_pZ m c) i).symm) (cr4 _) l6) $$ [Hl' Hc4 Hd4 Ho]
  · isplitl [Hc4]; · iexact Hc4
    isplitl [Hl']; · iexact Hl'
    isplitl [Hd4]; · iexact Hd4
    iexact Ho
  iintro ⟨Hs4, Ho⟩
  iapplyF (wp_arr m 1 c rfl (cr4 _) l6 (by decide))
  iintro ⟨Ho, Hz, Hp⟩
  iapply (wpc_ret c)
  iapply Hk
  iframe

/-- So is the second half. -/
theorem part8 (v2 v5 v8 v10 v11 v13 v237 c32 : BitVec 32) (R : _ → sProp (MT nD τ sig Unit (Elt F) ℕ UU ℕ)) :
    iprop(canSend m 3 c ∗ canSend m 5 c ∗ rPay m 1 c ∗ dPt 3 (peer 3 c) ∗ dPt 5 (peer 5 c) ∗ ow c (oweL c l6))
      ⊢ iprop((∀ v w, (ow c (oweL c l4) ∗ sent m 3 c ∗ sent m 5 c ∗ pt c gM (gD 1 c) fullShare.right.right (G m c)) -∗ R ⟨v, w⟩)
        -∗ wpc c (app (k0_part8 (F := F)) c v2 v5 v8 v10 v11 v13 v237 c32) R) := by
  unfold app
  rw [k0_part8_eq_skeleton]; unfold k0_part8_skel
  simp only [Prog.lift, Prog.bind_op, Prog.bind_ret, Prog.pure_eq_ret]
  iintro ⟨Hc3, Hc5, Hp, Hd3, Hd5, Ho⟩ Hk
  ihave Hp' := (Entails.of_eq (rPay_g m 1 (by decide) c)) $$ Hp
  ihave Hp' := pt_half $$ Hp'
  icases Hp' with ⟨Hl, Hp'⟩
  ihave Hp' := pt_half $$ Hp'
  icases Hp' with ⟨Hl', Hp'⟩
  iapply (wp_copy_gg m 3 (by decide) c _ (dev9_eq c) rfl rfl (gD 1 c) (rs4_1 c) rfl (gd3 c) (fun i _ => (congrFun (G_pX m c) i).symm) (cr4 _) l5) $$ [Hl Hc3 Hd3 Ho]
  · isplitl [Hc3]; · iexact Hc3
    isplitl [Hl]; · iexact Hl
    isplitl [Hd3]; · iexact Hd3
    iexact Ho
  iintro ⟨Hs3, Ho⟩
  iapply (wp_copy_gg m 5 (by decide) c _ (dev10_eq c) rfl rfl (gD 1 c) (rs4_1 c) rfl (gd5 c) (fun i _ => (congrFun (G_pZ m c) i).symm) (cr4 _) l4) $$ [Hl' Hc5 Hd5 Ho]
  · isplitl [Hc5]; · iexact Hc5
    isplitl [Hl']; · iexact Hl'
    isplitl [Hd5]; · iexact Hd5
    iexact Ho
  iintro ⟨Hs5, Ho⟩
  iapply (wpc_ret c)
  iapply Hk
  iframe

end

end Cert.SoftmaxProof

end
-- ==== Proof.K.PartsB.lean ====
/-
# The body, second part: the scaled result, the halves sent on, the departures
-/
module

public import proofs.«01_k».proof.Proof.K.PartsA

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

section
variable (c : Dev nD)

/-! ## A received half row block, cut by columns -/

theorem cols2 (q : PosShare TreeShare) (f : FVec F S256x4096 .bf16) : (pt c gM (gD 2 c) q f : sProp (MT nD τ sig Unit (Elt F) ℕ UU ℕ))
    = iprop(pt c gM (blk (64 * qxN c) 32 0 2048) q f ∗ pt c gM (blk (64 * qxN c) 32 2048 2048) q f) := cols_g c q _ f
theorem cols3 (q : PosShare TreeShare) (f : FVec F S256x4096 .bf16) : (pt c gM (gD 3 c) q f : sProp (MT nD τ sig Unit (Elt F) ℕ UU ℕ))
    = iprop(pt c gM (blk (64 * qxN c + 32) 32 0 2048) q f ∗ pt c gM (blk (64 * qxN c + 32) 32 2048 2048) q f) := cols_g c q _ f
theorem cols4 (q : PosShare TreeShare) (f : FVec F S256x4096 .bf16) : (pt c gM (gD 4 c) q f : sProp (MT nD τ sig Unit (Elt F) ℕ UU ℕ))
    = iprop(pt c gM (blk (64 * qzN c) 32 0 2048) q f ∗ pt c gM (blk (64 * qzN c) 32 2048 2048) q f) := cols_g c q _ f
theorem cols5 (q : PosShare TreeShare) (f : FVec F S256x4096 .bf16) : (pt c gM (gD 5 c) q f : sProp (MT nD τ sig Unit (Elt F) ℕ UU ℕ))
    = iprop(pt c gM (blk (64 * qzN c + 32) 32 0 2048) q f ∗ pt c gM (blk (64 * qzN c + 32) 32 2048 2048) q f) := cols_g c q _ f

/-! ## Three scaled blocks that are stored a piece later than they are computed -/

abbrev s13 : FVec F S32x4096 .f32 :=
  k0_pay22 (gM.view.readAt (Elt F) (Rect.unit (s := S256x4096) (k0_off11 c 32#32) S32x4096.size (k0_off11_inb c 1)).toLoadRect (G m c))
    (rM.view.readAt (Elt F) (Rect.unit (s := S256x128) (k0_off12 c 32#32) S32x1.size (k0_off12_inb c 1)).toLoadRect (RB m c))
abbrev s25 : FVec F S32x2048 .f32 :=
  k0_pay26 (gM.view.readAt (Elt F) (Rect.unit (s := S256x4096) (k0_off24 c 0#32) S32x2048.size (k0_off24_inb c 0)).toLoadRect (G m c))
    (rM.view.readAt (Elt F) (Rect.unit (s := S256x128) (k0_off21 c 0#32) S32x1.size (k0_off21_inb c 0)).toLoadRect (RB m c))
abbrev s22 : FVec F S32x2048 .f32 :=
  k0_pay27 (gM.view.readAt (Elt F) (Rect.unit (s := S256x4096) (k0_off20 c 32#32) S32x2048.size (k0_off20_inb c 1)).toLoadRect (G m c))
    (rM.view.readAt (Elt F) (Rect.unit (s := S256x128) (k0_off21 c 32#32) S32x1.size (k0_off21_inb c 1)).toLoadRect (RB m c))

/-- The wait for the other half's row sums; the reciprocals; the own half of the result, and the own row block of the other. -/
theorem part9 (v5 v8 v9 v13 v270 c2 : BitVec 32) (R : _ → sProp (MT nD τ sig Unit (Elt F) ℕ UU ℕ)) :
    iprop(canRecv m 10 c ∗ levAts L lv ∗ ow c (oweL c l4) ∗ pt c ssM Finset.univ fullShare.right (Sm m c) ∗ (∃ f, pt c rM Finset.univ fullShare f)
        ∗ pt c eM Finset.univ fullShare.right (E m c) ∗ (∃ f, pt c oM (oS 0 c) fullShare f) ∗ (∃ f, pt c oM (oS 1 c) fullShare f)
        ∗ pt c gM (gD 0 c) fullShare.right.right (G m c) ∗ pt c gM (gD 1 c) fullShare.right.right (G m c))
      ⊢ iprop((∀ v w, (ow c (oweL c l4) ∗ semVal (rcell 10 c) 0 ∗ pt c srM Finset.univ fullShare (Sm m (pP c)) ∗ pt c ssM Finset.univ fullShare.right (Sm m c)
          ∗ pt c rM Finset.univ fullShare (RB m c) ∗ pt c eM Finset.univ fullShare.right (E m c)
          ∗ pt c oM (oS 0 c) fullShare (OUT m c) ∗ pt c oM (oS 1 c) fullShare (OUT m c)
          ∗ pt c gM (gD 0 c) fullShare.right.right (G m c) ∗ pt c gM (gD 1 c) fullShare.right.right (G m c)) -∗ R ⟨v, w⟩)
        -∗ wpc c (app (k0_part9 (F := F)) c v5 v8 v9 v13 v270 c2) R) := by
  unfold app
  rw [k0_part9_eq_skeleton]; unfold k0_part9_skel
  simp only [Prog.lift, Prog.bind_op, Prog.bind_ret, Prog.pure_eq_ret]
  iintro ⟨Hr, #Hlev, Ho, Hss, ⟨%fr, Hrb⟩, He, ⟨%f0, H0⟩, ⟨%f1, H1⟩, Hg0, Hg1⟩ Hk
  iapplyF (wp_arr m 10 c rfl rfl l4 (by decide))
  iintro ⟨Ho, Hz, Hp⟩
  ihave Hsr := (Entails.of_eq (show rPay m 10 c = pt c srM Finset.univ fullShare (Sm m (pP c)) from rfl)) $$ Hp
  iapply (wp_ld (M := ssM) (Finset.subset_univ _) (ld_ss _)) $$ Hss; iintro Hss
  iapply (wp_ld (M := srM) (Finset.subset_univ _) (ld_sr _)) $$ Hsr; iintro Hsr
  iapply (wp_ld (M := rM) (Finset.subset_univ _) rfl) $$ Hrb; iintro Hrb
  iapply (wp_st (M := rM) (set_st ((set_unit 0 0 rfl _).trans blk_all)) (RB m c) (st_r m c)) $$ Hrb; iintro Hrb
  iapply (wp_ld (M := eM) (Finset.subset_univ _) (ld_e _)) $$ He; iintro He
  iapply (wp_ld (M := oM) (sub_ld (rs5 c)) rfl) $$ H0; iintro H0
  iapply (wp_st (M := oM) (set_st (rs5 c)) (OUT m c) (st_o0 m c)) $$ H0; iintro H0
  ihave Hg := (Entails.of_eq (own_g c _ _).symm) $$ [Hg0 Hg1]
  · isplitl [Hg0]; · iexact Hg0
    iexact Hg1
  iapply (wp_ld (M := gM) (sub_ld (rs6 c)) rfl) $$ Hg; iintro Hg
  iapply (wp_ld (M := rM) (Finset.subset_univ _) rfl) $$ Hrb; iintro Hrb
  iapply (wp_ld (M := oM) (sub_ld (rs8 c)) rfl) $$ H1; iintro H1
  iapply (wp_st (M := oM) (set_st (rs8 c)) (OUT m c) (st_other m c _ _ _ (off8_at c) (off6_at c) (off7_at c) _ _ _ broadcasts_S64x1_S64x4096 rfl)) $$ H1; iintro H1
  ihave Hg' := (Entails.of_eq (own_g c _ _)) $$ Hg
  icases Hg' with ⟨Hg0, Hg1⟩
  iapply (wpc_ret c)
  iapply Hk
  iframe

/-- The wait for the first half row block from the other `x`; its right columns are sent on. -/
theorem part10 (v2 v5 v8 v10 v11 v16 c64 : BitVec 32) (R : _ → sProp (MT nD τ sig Unit (Elt F) ℕ UU ℕ)) :
    iprop(canRecv m 2 c ∗ levAts L lv ∗ ow c (oweL c l4) ∗ canSend m 8 c ∗ dPt 8 (peer 8 c))
      ⊢ iprop(((ow c (oweL c l3) ∗ semVal (rcell 2 c) 0 ∗ sent m 8 c ∗ pt c gM (gD 2 c) fullShare.right (G m c)
          ∗ pt c gM (blk (64 * qxN c) 32 0 2048) fullShare.left (G m c)) -∗ R ⟨⟩)
        -∗ wpc c (app (k0_part10 (F := F)) c v2 v5 v8 v10 v11 v16 c64) R) := by
  unfold app
  rw [k0_part10_eq_skeleton]; unfold k0_part10_skel
  simp only [Prog.lift, Prog.bind_op, Prog.bind_ret, Prog.pure_eq_ret]
  iintro ⟨Hr, #Hlev, Ho, Hc, Hd⟩ Hk
  iapplyF (wp_arr m 2 c rfl (cr4 _) l4 (by decide))
  iintro ⟨Ho, Hz, Hp⟩
  ihave Hp := (Entails.of_eq (rPay_g m 2 (by decide) c)) $$ Hp
  ihave Hp := pt_half $$ Hp
  icases Hp with ⟨Hl, Hg⟩
  ihave Hp := (Entails.of_eq (cols2 c _ _)) $$ Hl
  icases Hp with ⟨Hl, Hs⟩
  iapply (wp_copy_gg m 8 (by decide) c _ (dev11_eq c) rfl rfl _ (rs10_0 c) rfl (gd8 c) (fun i _ => (congrFun (G_pZ m c) i).symm) (cr2 _) l3) $$ [Hs Hc Hd Ho]
  · isplitl [Hc]; · iexact Hc
    isplitl [Hs]; · iexact Hs
    isplitl [Hd]; · iexact Hd
    iexact Ho
  iintro ⟨Hs, Ho⟩
  iapply (wpc_ret c)
  iapply Hk
  iframe

/-- It is scaled; the wait for the first half row block from the other `z`. -/
theorem part11 (v2 v5 v10 v11 v16 v19 v287 : BitVec 32) (R : _ → sProp (MT nD τ sig Unit (Elt F) ℕ UU ℕ)) :
    iprop(pt c gM (gD 2 c) fullShare.right (G m c) ∗ pt c rM Finset.univ fullShare (RB m c) ∗ (∃ f, pt c oM (oS 2 c) fullShare f)
        ∗ canRecv m 4 c ∗ levAts L lv ∗ ow c (oweL c l3))
      ⊢ iprop((∀ v w, (pt c gM (gD 2 c) fullShare.right (G m c) ∗ pt c rM Finset.univ fullShare (RB m c) ∗ pt c oM (oS 2 c) fullShare (OUT m c)
          ∗ ow c (oweL c l3) ∗ semVal (rcell 4 c) 0 ∗ rPay m 4 c) -∗ R ⟨v, w⟩)
        -∗ wpc c (app (k0_part11 (F := F)) c v2 v5 v10 v11 v16 v19 v287) R) := by
  unfold app
  rw [k0_part11_eq_skeleton]; unfold k0_part11_skel
  simp only [Prog.lift, Prog.bind_op, Prog.bind_ret, Prog.pure_eq_ret]
  iintro ⟨Hg, Hrb, ⟨%f, H⟩, Hr, #Hlev, Ho⟩ Hk
  iapply (wp_ld (M := gM) (sub_ld (rs11_0 c)) rfl) $$ Hg; iintro Hg
  iapply (wp_ld (M := rM) (Finset.subset_univ _) rfl) $$ Hrb; iintro Hrb
  iapply (wp_ld (M := oM) (sub_ld (rs13_0 c)) rfl) $$ H; iintro H
  iapply (wp_st (M := oM) (set_st (rs13_0 c)) (OUT m c) (st_other m c _ _ _ (off13_at c 0) (off11_at c 0) (off12_at c 0) _ _ _ broadcasts_S32x1_S32x4096 rfl)) $$ H; iintro H
  iapplyF (wp_arr m 4 c rfl (cr4 _) l3 (by decide))
  iintro ⟨Ho, Hz, Hp⟩
  iapply (wpc_ret c)
  iapply Hk
  iframe

/-- Its left columns are sent on; it is scaled. -/
theorem part12 (v5 v8 v10 v16 v19 v287 v371 c0 : BitVec 32) (R : _ → sProp (MT nD τ sig Unit (Elt F) ℕ UU ℕ)) :
    iprop(rPay m 4 c ∗ canSend m 6 c ∗ dPt 6 (peer 6 c) ∗ ow c (oweL c l3) ∗ pt c rM Finset.univ fullShare (RB m c) ∗ (∃ f, pt c oM (oS 4 c) fullShare f))
      ⊢ iprop((∀ v w, (pt c gM (gD 4 c) fullShare.right (G m c) ∗ pt c gM (blk (64 * qzN c) 32 2048 2048) fullShare.left (G m c)
          ∗ pt c rM Finset.univ fullShare (RB m c) ∗ pt c oM (oS 4 c) fullShare (OUT m c) ∗ ow c (oweL c l2) ∗ sent m 6 c) -∗ R ⟨v, w⟩)
        -∗ wpc c (app (k0_part12 (F := F)) c v5 v8 v10 v16 v19 v287 v371 c0) R) := by
  unfold app
  rw [k0_part12_eq_skeleton]; unfold k0_part12_skel
  simp only [Prog.lift, Prog.bind_op, Prog.bind_ret, Prog.pure_eq_ret]
  iintro ⟨Hp, Hc, Hd, Ho, Hrb, ⟨%f, H⟩⟩ Hk
  ihave Hp := (Entails.of_eq (rPay_g m 4 (by decide) c)) $$ Hp
  ihave Hp := pt_half $$ Hp
  icases Hp with ⟨Hl, Hg⟩
  ihave Hp := (Entails.of_eq (cols4 c _ _)) $$ Hl
  icases Hp with ⟨Hs, Hl⟩
  iapply (wp_copy_gg m 6 (by decide) c _ (dev12_eq c) rfl rfl _ (rs15_0 c) rfl (gd6 c) (fun i _ => (congrFun (G_pX m c) i).symm) (cr2 _) l2) $$ [Hs Hc Hd Ho]
  · isplitl [Hc]; · iexact Hc
    isplitl [Hs]; · iexact Hs
    isplitl [Hd]; · iexact Hd
    iexact Ho
  iintro ⟨Hs, Ho⟩
  iapply (wp_ld (M := gM) (sub_ld (rs16_0 c)) rfl) $$ Hg; iintro Hg
  iapply (wp_ld (M := rM) (Finset.subset_univ _) rfl) $$ Hrb; iintro Hrb
  iapply (wp_ld (M := oM) (sub_ld (rs18_0 c)) rfl) $$ H; iintro H
  iapply (wp_st (M := oM) (set_st (rs18_0 c)) (OUT m c) (st_other m c _ _ _ (off18_at c 0) (off16_at c 0) (off17_at c 0) _ _ _ broadcasts_S32x1_S32x4096 rfl)) $$ H; iintro H
  iapply (wpc_ret c)
  iapply Hk
  iframe

/-- The wait for the second half row block from the other `x`; its right columns are sent on; it is scaled. -/
theorem part13 (v2 v5 v11 v16 v287 v406 v407 : BitVec 32) (R : _ → sProp (MT nD τ sig Unit (Elt F) ℕ UU ℕ)) :
    iprop(canRecv m 3 c ∗ levAts L lv ∗ ow c (oweL c l2) ∗ canSend m 9 c ∗ dPt 9 (peer 9 c) ∗ pt c rM Finset.univ fullShare (RB m c))
      ⊢ iprop(((ow c (oweL c l1) ∗ semVal (rcell 3 c) 0 ∗ sent m 9 c ∗ pt c gM (gD 3 c) fullShare.right (G m c)
          ∗ pt c gM (blk (64 * qxN c + 32) 32 0 2048) fullShare.left (G m c) ∗ pt c rM Finset.univ fullShare (RB m c))
            -∗ R (s13 m c))
        -∗ wpc c (app (k0_part13 (F := F)) c v2 v5 v11 v16 v287 v406 v407) R) := by
  unfold app
  rw [k0_part13_eq_skeleton]; unfold k0_part13_skel
  simp only [Prog.lift, Prog.bind_op, Prog.bind_ret, Prog.pure_eq_ret]
  iintro ⟨Hr, #Hlev, Ho, Hc, Hd, Hrb⟩ Hk
  iapplyF (wp_arr m 3 c rfl (cr4 _) l2 (by decide))
  iintro ⟨Ho, Hz, Hp⟩
  ihave Hp := (Entails.of_eq (rPay_g m 3 (by decide) c)) $$ Hp
  ihave Hp := pt_half $$ Hp
  icases Hp with ⟨Hl, Hg⟩
  ihave Hp := (Entails.of_eq (cols3 c _ _)) $$ Hl
  icases Hp with ⟨Hl, Hs⟩
  iapply (wp_copy_gg m 9 (by decide) c _ (dev13_eq c) rfl rfl _ (rs10_1 c) rfl (gd9 c) (fun i _ => (congrFun (G_pZ m c) i).symm) (cr2 _) l1) $$ [Hs Hc Hd Ho]
  · isplitl [Hc]; · iexact Hc
    isplitl [Hs]; · iexact Hs
    isplitl [Hd]; · iexact Hd
    iexact Ho
  iintro ⟨Hs, Ho⟩
  iapply (wp_ld (M := gM) (sub_ld (rs11_1 c)) rfl) $$ Hg; iintro Hg
  iapply (wp_ld (M := rM) (Finset.subset_univ _) rfl) $$ Hrb; iintro Hrb
  iapply (wpc_ret c)
  iapply Hk
  iframe

/-- It is stored; the wait for the second half row block from the other `z`; its left columns are sent on. -/
theorem part14 (v2 v5 v8 v10 v11 v19 : BitVec 32) (R : _ → sProp (MT nD τ sig Unit (Elt F) ℕ UU ℕ)) :
    iprop((∃ f, pt c oM (oS 3 c) fullShare f) ∗ canRecv m 5 c ∗ levAts L lv ∗ ow c (oweL c l1) ∗ canSend m 7 c ∗ dPt 7 (peer 7 c))
      ⊢ iprop((∀ v, (pt c oM (oS 3 c) fullShare (OUT m c) ∗ ow c (oweL c []) ∗ semVal (rcell 5 c) 0 ∗ sent m 7 c ∗ pt c gM (gD 5 c) fullShare.right (G m c)
          ∗ pt c gM (blk (64 * qzN c + 32) 32 2048 2048) fullShare.left (G m c)) -∗ R v)
        -∗ wpc c (app (k0_part14 (F := F)) c v2 v5 v8 v10 v11 v19
          (s13 m c)) R) := by
  unfold app
  rw [k0_part14_eq_skeleton]; unfold k0_part14_skel
  simp only [Prog.lift, Prog.bind_op, Prog.bind_ret, Prog.pure_eq_ret]
  iintro ⟨⟨%f, H⟩, Hr, #Hlev, Ho, Hc, Hd⟩ Hk
  iapply (wp_ld (M := oM) (sub_ld (rs13_1 c)) rfl) $$ H; iintro H
  iapply (wp_st (M := oM) (set_st (rs13_1 c)) (OUT m c) (st_other m c _ _ _ (off13_at c 1) (off11_at c 1) (off12_at c 1) _ _ _ broadcasts_S32x1_S32x4096 rfl)) $$ H; iintro H
  iapplyF (wp_arr m 5 c rfl (cr4 _) l1 (by decide))
  iintro ⟨Ho, Hz, Hp⟩
  ihave Hp := (Entails.of_eq (rPay_g m 5 (by decide) c)) $$ Hp
  ihave Hp := pt_half $$ Hp
  icases Hp with ⟨Hl, Hg⟩
  ihave Hp := (Entails.of_eq (cols5 c _ _)) $$ Hl
  icases Hp with ⟨Hs, Hl⟩
  iapply (wp_copy_gg m 7 (by decide) c _ (dev14_eq c) rfl rfl _ (rs15_1 c) rfl (gd7 c) (fun i _ => (congrFun (G_pX m c) i).symm) (cr2 _) []) $$ [Hs Hc Hd Ho]
  · isplitl [Hc]; · iexact Hc
    isplitl [Hs]; · iexact Hs
    isplitl [Hd]; · iexact Hd
    iexact Ho
  iintro ⟨Hs, Ho⟩
  iapply (wpc_ret c)
  iapply Hk
  iframe

/-- It is scaled; the wait for the first quarter of the row block of the device with both others. -/
theorem part15 (v5 v8 v10 v19 v23 v287 v475 : BitVec 32) (R : _ → sProp (MT nD τ sig Unit (Elt F) ℕ UU ℕ)) :
    iprop(pt c gM (gD 5 c) fullShare.right (G m c) ∗ pt c rM Finset.univ fullShare (RB m c) ∗ (∃ f, pt c oM (oS 5 c) fullShare f)
        ∗ canRecv m 6 c ∗ levAts L lv ∗ ow c (oweL c []))
      ⊢ iprop((∀ v, (pt c gM (gD 5 c) fullShare.right (G m c) ∗ pt c rM Finset.univ fullShare (RB m c) ∗ pt c oM (oS 5 c) fullShare (OUT m c)
          ∗ ow c (oweL c []) ∗ semVal (rcell 6 c) 0 ∗ pt c gM (gD 6 c) fullShare (G m c))
            -∗ R ⟨k0_pay24 (gM.view.readAt (Elt F) (Rect.unit (s := S256x4096) (k0_off20 c 0#32) S32x2048.size (k0_off20_inb c 0)).toLoadRect (G m c)), v⟩)
        -∗ wpc c (app (k0_part15 (F := F)) c v5 v8 v10 v19 v23 v287 v475) R) := by
  unfold app
  rw [k0_part15_eq_skeleton]; unfold k0_part15_skel
  simp only [Prog.lift, Prog.bind_op, Prog.bind_ret, Prog.pure_eq_ret]
  iintro ⟨Hg, Hrb, ⟨%f, H⟩, Hr, #Hlev, Ho⟩ Hk
  iapply (wp_ld (M := gM) (sub_ld (rs16_1 c)) rfl) $$ Hg; iintro Hg
  iapply (wp_ld (M := rM) (Finset.subset_univ _) rfl) $$ Hrb; iintro Hrb
  iapply (wp_ld (M := oM) (sub_ld (rs18_1 c)) rfl) $$ H; iintro H
  iapply (wp_st (M := oM) (set_st (rs18_1 c)) (OUT m c) (st_other m c _ _ _ (off18_at c 1) (off16_at c 1) (off17_at c 1) _ _ _ broadcasts_S32x1_S32x4096 rfl)) $$ H; iintro H
  iapplyF (wp_arr m 6 c rfl (cr2 _) [] (by decide))
  iintro ⟨Ho, Hz, Hp⟩
  ihave Hp := (Entails.of_eq (rPay_g m 6 (by decide) c)) $$ Hp
  iapply (wp_ld (M := gM) (sub_ld (rs20_0 c)) rfl) $$ Hp; iintro Hp
  iapply (wpc_ret c)
  iapply Hk
  iframe

/-- It is scaled; the wait for the quarter to its right, which is scaled. -/
theorem part16 (v2 v5 v11 v23 v287 v510 : BitVec 32) (R : _ → sProp (MT nD τ sig Unit (Elt F) ℕ UU ℕ)) :
    iprop(pt c rM Finset.univ fullShare (RB m c) ∗ (∃ f, pt c oM (oS 6 c) fullShare f) ∗ canRecv m 8 c ∗ levAts L lv ∗ ow c (oweL c []))
      ⊢ iprop((∀ v, (pt c rM Finset.univ fullShare (RB m c) ∗ pt c oM (oS 6 c) fullShare (OUT m c)
          ∗ ow c (oweL c []) ∗ semVal (rcell 8 c) 0 ∗ pt c gM (gD 8 c) fullShare (G m c))
            -∗ R ⟨s25 m c, v⟩)
        -∗ wpc c (app (k0_part16 (F := F)) c v2 v5 v11 v23 v287
          (k0_pay24 (gM.view.readAt (Elt F) (Rect.unit (s := S256x4096) (k0_off20 c 0#32) S32x2048.size (k0_off20_inb c 0)).toLoadRect (G m c))) v510) R) := by
  unfold app
  rw [k0_part16_eq_skeleton]; unfold k0_part16_skel
  simp only [Prog.lift, Prog.bind_op, Prog.bind_ret, Prog.pure_eq_ret]
  iintro ⟨Hrb, ⟨%f, H⟩, Hr, #Hlev, Ho⟩ Hk
  iapply (wp_ld (M := rM) (Finset.subset_univ _) rfl) $$ Hrb; iintro Hrb
  iapply (wp_ld (M := oM) (sub_ld (rs22_0 c)) rfl) $$ H; iintro H
  iapply (wp_st (M := oM) (set_st (rs22_0 c)) (OUT m c) (st_other m c _ _ _ (off22_at c 0) (off20_at c 0) (off21_at c 0) _ _ _ broadcasts_S32x1_S32x2048 rfl)) $$ H; iintro H
  iapplyF (wp_arr m 8 c rfl (cr2 _) [] (by decide))
  iintro ⟨Ho, Hz, Hp⟩
  ihave Hp := (Entails.of_eq (rPay_g m 8 (by decide) c)) $$ Hp
  iapply (wp_ld (M := gM) (sub_ld (rs24_0 c)) rfl) $$ Hp; iintro Hp
  iapply (wp_ld (M := rM) (Finset.subset_univ _) rfl) $$ Hrb; iintro Hrb
  iapply (wpc_ret c)
  iapply Hk
  iframe

/-- It is stored; the wait for the left quarter below, which is scaled. -/
theorem part17 (v5 v8 v10 v23 v287 c64 : BitVec 32) (R : _ → sProp (MT nD τ sig Unit (Elt F) ℕ UU ℕ)) :
    iprop((∃ f, pt c oM (oS 8 c) fullShare f) ∗ (∃ f, pt c oM (oS 7 c) fullShare f) ∗ canRecv m 7 c ∗ levAts L lv ∗ ow c (oweL c []) ∗ pt c rM Finset.univ fullShare (RB m c))
      ⊢ iprop(((pt c oM (oS 8 c) fullShare (OUT m c) ∗ (∃ f, pt c oM (oS 7 c) fullShare f) ∗ pt c rM Finset.univ fullShare (RB m c)
          ∗ ow c (oweL c []) ∗ semVal (rcell 7 c) 0 ∗ pt c gM (gD 7 c) fullShare (G m c))
            -∗ R (s22 m c))
        -∗ wpc c (app (k0_part17 (F := F)) c v5 v8 v10 v23 v287
          (s25 m c) c64) R) := by
  unfold app
  rw [k0_part17_eq_skeleton]; unfold k0_part17_skel
  simp only [Prog.lift, Prog.bind_op, Prog.bind_ret, Prog.pure_eq_ret]
  iintro ⟨⟨%f, H⟩, ⟨%g, H7⟩, Hr, #Hlev, Ho, Hrb⟩ Hk
  iapply (wp_ld (M := oM) (sub_ld (rs25_0 c)) rfl) $$ H; iintro H
  iapply (wp_st (M := oM) (set_st (rs25_0 c)) (OUT m c) (st_other m c _ _ _ (off25_at c 0) (off24_at c 0) (off21_at c 0) _ _ _ broadcasts_S32x1_S32x2048 rfl)) $$ H; iintro H
  iapplyF (wp_arr m 7 c rfl (cr2 _) [] (by decide))
  iintro ⟨Ho, Hz, Hp⟩
  ihave Hp := (Entails.of_eq (rPay_g m 7 (by decide) c)) $$ Hp
  iapply (wp_ld (M := gM) (sub_ld (rs20_1 c)) rfl) $$ Hp; iintro Hp
  iapply (wp_ld (M := rM) (Finset.subset_univ _) rfl) $$ Hrb; iintro Hrb
  iapply (wp_ld (M := oM) (sub_ld (rs22_1 c)) rfl) $$ H7; iintro H7
  iapply (wpc_ret c)
  iapply Hk
  isplitl [H]; · iexact H
  isplitl [H7]; · iexists g; iexact H7
  iframe

/-- It is stored; the wait for the last quarter, which is scaled. -/
theorem part18 (v2 v5 v11 v13 v23 v287 : BitVec 32) (R : _ → sProp (MT nD τ sig Unit (Elt F) ℕ UU ℕ)) :
    iprop((∃ f, pt c oM (oS 7 c) fullShare f) ∗ (∃ f, pt c oM (oS 9 c) fullShare f) ∗ canRecv m 9 c ∗ levAts L lv ∗ ow c (oweL c []) ∗ pt c rM Finset.univ fullShare (RB m c))
      ⊢ iprop((∀ v, (pt c oM (oS 7 c) fullShare (OUT m c) ∗ pt c oM (oS 9 c) fullShare (OUT m c) ∗ pt c rM Finset.univ fullShare (RB m c)
          ∗ ow c 0 ∗ semVal (rcell 9 c) 0 ∗ pt c gM (gD 9 c) fullShare (G m c)) -∗ R v)
        -∗ wpc c (app (k0_part18 (F := F)) c v2 v5 v11 v13 v23 v287
          (s22 m c)) R) := by
  unfold app
  rw [k0_part18_eq_skeleton]; unfold k0_part18_skel
  simp only [Prog.lift, Prog.bind_op, Prog.bind_ret, Prog.pure_eq_ret]
  iintro ⟨⟨%f, H7⟩, ⟨%g, H⟩, Hr, #Hlev, Ho, Hrb⟩ Hk
  iapply (wp_st (M := oM) (set_st (rs22_1 c)) (OUT m c) (st_other m c _ _ _ (off22_at c 1) (off20_at c 1) (off21_at c 1) _ _ _ broadcasts_S32x1_S32x2048 rfl)) $$ H7; iintro H7
  iapplyF (wp_arr m 9 c rfl (cr2 _) [] (by decide))
  iintro ⟨Ho, Hz, Hp⟩
  ihave Ho := (Entails.of_eq (show (ow (F := F) c (oweL c []) : sProp (MT nD τ sig Unit (Elt F) ℕ UU ℕ)) = ow c 0 from rfl)) $$ Ho
  ihave Hp := (Entails.of_eq (rPay_g m 9 (by decide) c)) $$ Hp
  iapply (wp_ld (M := gM) (sub_ld (rs24_1 c)) rfl) $$ Hp; iintro Hp
  iapply (wp_ld (M := rM) (Finset.subset_univ _) rfl) $$ Hrb; iintro Hrb
  iapply (wp_ld (M := oM) (sub_ld (rs25_1 c)) rfl) $$ H; iintro H
  iapply (wp_st (M := oM) (set_st (rs25_1 c)) (OUT m c) (st_other m c _ _ _ (off25_at c 1) (off24_at c 1) (off21_at c 1) _ _ _ broadcasts_S32x1_S32x2048 rfl)) $$ H; iintro H
  iapply (wpc_ret c)
  iapply Hk
  iframe

/-! ## The departures -/

theorem crE {off : Fin 2 → ℕ} (inb : ∀ i, off i + (![32, 4096] : Fin 2 → ℕ) i ≤ (![256, 4096] : Fin 2 → ℕ) i) :
    (eM.slice (Rect.unit (s := S256x4096) off ![32, 4096] inb) (fun _ => rfl)).view.dmaCredit = A4 := rfl

theorem part19 (v13 v19 c64 : BitVec 32) (R : _ → sProp (MT nD τ sig Unit (Elt F) ℕ UU ℕ)) :
    iprop(sent m 0 c ∗ sent m 2 c ∗ sent m 4 c ∗ ow c 0)
      ⊢ iprop(((ow c 0 ∗ (semVal (scell 0 c) 0 ∗ sPay m 0 c) ∗ (semVal (scell 2 c) 0 ∗ sPay m 2 c) ∗ (semVal (scell 4 c) 0 ∗ sPay m 4 c)) -∗ R ⟨⟩)
        -∗ wpc c (app (k0_part19 (F := F)) c v13 v19 c64) R) := by
  unfold app
  rw [k0_part19_eq_skeleton]; unfold k0_part19_skel
  simp only [Prog.lift, Prog.bind_op, Prog.bind_ret, Prog.pure_eq_ret]
  iintro ⟨H0, H2, H4, Ho⟩ Hk
  iapplyF (wp_dep m 0 c rfl (crE _))
  iintro ⟨Ho, P0⟩
  iapplyF (wp_dep m 2 c rfl (cr4 _))
  iintro ⟨Ho, P2⟩
  iapplyF (wp_dep m 4 c rfl (cr4 _))
  iintro ⟨Ho, P4⟩
  iapply (wpc_ret c)
  iapply Hk
  iframe

theorem part20 (v13 v16 : BitVec 32) (R : _ → sProp (MT nD τ sig Unit (Elt F) ℕ UU ℕ)) :
    iprop(sent m 6 c ∗ sent m 8 c ∗ sent m 1 c ∗ ow c 0)
      ⊢ iprop(((ow c 0 ∗ (semVal (scell 6 c) 0 ∗ sPay m 6 c) ∗ (semVal (scell 8 c) 0 ∗ sPay m 8 c) ∗ (semVal (scell 1 c) 0 ∗ sPay m 1 c)) -∗ R ⟨⟩)
        -∗ wpc c (app (k0_part20 (F := F)) c v13 v16) R) := by
  unfold app
  rw [k0_part20_eq_skeleton]; unfold k0_part20_skel
  simp only [Prog.lift, Prog.bind_op, Prog.bind_ret, Prog.pure_eq_ret]
  iintro ⟨H6, H8, H1, Ho⟩ Hk
  iapplyF (wp_dep m 6 c rfl (cr2 _))
  iintro ⟨Ho, P6⟩
  iapplyF (wp_dep m 8 c rfl (cr2 _))
  iintro ⟨Ho, P8⟩
  iapplyF (wp_dep m 1 c rfl (crE _))
  iintro ⟨Ho, P1⟩
  iapply (wpc_ret c)
  iapply Hk
  iframe

end

end Cert.SoftmaxProof

end
-- ==== Proof.K.Whole.lean ====
/-
# The buffers cut for the body, and put together again
-/
module

public import proofs.«01_k».proof.Proof.K.PartsB

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- One of each of the eleven copies. -/
abbrev all11 (Φ : Fin 11 → sProp (MT nD τ sig Unit (Elt F) ℕ UU ℕ)) : sProp (MT nD τ sig Unit (Elt F) ℕ UU ℕ) :=
  iprop(Φ 0 ∗ Φ 1 ∗ Φ 2 ∗ Φ 3 ∗ Φ 4 ∗ Φ 5 ∗ Φ 6 ∗ Φ 7 ∗ Φ 8 ∗ Φ 9 ∗ Φ 10)

/-- A whole buffer at whatever it holds. -/
abbrev anyAt {s : Shape} {e : EltTy} (c : Dev nD) (M : Memref sig .tc .vmem s e) : sProp (MT nD τ sig Unit (Elt F) ℕ UU ℕ) := iprop(∃ f, pt c M Finset.univ fullShare f)

/-- The scratch buffers at whatever they hold. -/
abbrev scratch (c : Dev nD) : sProp (MT nD τ sig Unit (Elt F) ℕ UU ℕ) :=
  iprop(anyAt c eM ∗ anyAt c gM ∗ anyAt c xbM ∗ anyAt c wbM ∗ anyAt c rM ∗ anyAt c ssM ∗ anyAt c srM)

/-- What device `c` may do: the three signals, the barrier wait, the copies, the waits for the arrivals. -/
def may (c : Dev nD) : sProp (MT nD τ sig Unit (Elt F) ℕ UU ℕ) :=
  iprop(canSig m 0 c ∗ canSig m 1 c ∗ canSig m 2 c ∗ canBar m c ∗ all11 (fun k => canSend m k c) ∗ all11 (fun k => canRecv m k c) ∗ levAts L lv)

/-- All of `c`'s semaphores at zero. -/
def sems0 (c : Dev nD) : sProp (MT nD τ sig Unit (Elt F) ℕ UU ℕ) :=
  iprop(semVal (barCell c) 0 ∗ all11 (fun k => semVal (scell k c) 0) ∗ all11 (fun k => semVal (rcell k c) 0))

section
variable (c : Dev nD)

/-! ## Cutting the buffers, and putting them together again -/

theorem give_all : iprop(anyAt (F := F) c gM ∗ anyAt c srM) ⊢ iprop(give 0 c ∗ give 1 c ∗ give 2 c : sProp (MT nD τ sig Unit (Elt F) ℕ UU ℕ)) := by
  show _ ⊢ iprop(((∃ f, pt c gM (gD 0 c) fullShare f) ∗ (∃ f, pt c gM (gD 1 c) fullShare f) ∗ (∃ f, pt c srM Finset.univ fullShare f))
    ∗ ((∃ f, pt c gM (gD 2 c) fullShare f) ∗ (∃ f, pt c gM (gD 3 c) fullShare f) ∗ (∃ f, pt c gM (gD 6 c) fullShare f) ∗ (∃ f, pt c gM (gD 7 c) fullShare f))
    ∗ ((∃ f, pt c gM (gD 4 c) fullShare f) ∗ (∃ f, pt c gM (gD 5 c) fullShare f) ∗ (∃ f, pt c gM (gD 8 c) fullShare f) ∗ (∃ f, pt c gM (gD 9 c) fullShare f)))
  iintro ⟨⟨%f, H⟩, ⟨%g, Hs⟩⟩
  ihave Hg := (Entails.of_eq (g_parts c _ f)) $$ H
  icases Hg with ⟨H0, H1, H2, H3, H4, H5, H6, H7, H8, H9⟩
  isplitl [H0 H1 Hs]
  · isplitl [H0]; · iexists f; iexact H0
    isplitl [H1]; · iexists f; iexact H1
    iexists g; iexact Hs
  isplitl [H2 H3 H6 H7]
  · isplitl [H2]; · iexists f; iexact H2
    isplitl [H3]; · iexists f; iexact H3
    isplitl [H6]; · iexists f; iexact H6
    iexists f; iexact H7
  isplitl [H4]; · iexists f; iexact H4
  isplitl [H5]; · iexists f; iexact H5
  isplitl [H8]; · iexists f; iexact H8
  iexists f; iexact H9

/-- What the barrier brings, copy by copy. -/
theorem got_all : iprop(give (F := F) 0 (pP c) ∗ give 1 (pX c) ∗ give 2 (pZ c)) ⊢ all11 fun k => dPt (F := F) k (peer k c) := by
  show iprop((dPt 0 (pP c) ∗ dPt 1 (pP c) ∗ dPt 10 (pP c)) ∗ (dPt 2 (pX c) ∗ dPt 3 (pX c) ∗ dPt 6 (pX c) ∗ dPt 7 (pX c))
    ∗ (dPt 4 (pZ c) ∗ dPt 5 (pZ c) ∗ dPt 8 (pZ c) ∗ dPt 9 (pZ c)))
    ⊢ iprop(dPt 0 (pP c) ∗ dPt 1 (pP c) ∗ dPt 2 (pX c) ∗ dPt 3 (pX c) ∗ dPt 4 (pZ c) ∗ dPt 5 (pZ c) ∗ dPt 6 (pX c) ∗ dPt 7 (pX c)
      ∗ dPt 8 (pZ c) ∗ dPt 9 (pZ c) ∗ dPt (F := F) 10 (pP c))
  iintro ⟨⟨H0, H1, H10⟩, ⟨H2, H3, H6, H7⟩, H4, H5, H8, H9⟩
  iframe

/-- The exponentials: the right shares together. -/
theorem e_right : iprop((pt c eM (gD 0 c) fullShare.right (E m c) ∗ pt c eM (gD 1 c) fullShare.right (E m c))
      ∗ pt c eM (rowS 4096 1 c) fullShare (E m c) ∗ pt c eM (rowS 4096 2 c) fullShare (E m c) ∗ pt c eM (rowS 4096 3 c) fullShare (E m c))
    ⊢ iprop(pt c eM Finset.univ fullShare.right (E m c)
      ∗ pt c eM (rowS 4096 1 c) fullShare.left (E m c) ∗ pt c eM (rowS 4096 2 c) fullShare.left (E m c) ∗ pt c eM (rowS 4096 3 c) fullShare.left (E m c) : sProp (MT nD τ sig Unit (Elt F) ℕ UU ℕ)) := by
  rw [e_parts, ← own_rows]
  iintro ⟨H0, H1, H2, H3⟩
  ihave H1 := pt_half $$ H1
  icases H1 with ⟨L1, R1⟩
  ihave H2 := pt_half $$ H2
  icases H2 with ⟨L2, R2⟩
  ihave H3 := pt_half $$ H3
  icases H3 with ⟨L3, R3⟩
  iframe

/-- The exponentials' buffer whole again. -/
theorem e_back : iprop(pt c eM Finset.univ fullShare.right (E m c)
      ∗ pt c eM (rowS 4096 1 c) fullShare.left (E m c) ∗ pt c eM (rowS 4096 2 c) fullShare.left (E m c) ∗ pt c eM (rowS 4096 3 c) fullShare.left (E m c)
      ∗ sPay m 0 c ∗ sPay m 1 c) ⊢ (anyAt c eM : sProp (MT nD τ sig Unit (Elt F) ℕ UU ℕ)) := by
  show iprop(_ ∗ _ ∗ _ ∗ _ ∗ pt c eM (gD 0 c) fullShare.left (E m c) ∗ pt c eM (gD 1 c) fullShare.left (E m c)) ⊢ _
  rw [← own_rows]
  iintro ⟨HR, H1, H2, H3, H0⟩
  iexists (E m c)
  iapply pt_unhalf
  rw [e_parts (F := F) c fullShare.left]
  iframe

/-- `G`'s buffer whole again. -/
theorem g_back : iprop((pt c gM (gD 0 c) fullShare.right.right (G m c) ∗ sPay m 2 c ∗ sPay m 4 c) ∗ (pt c gM (gD 1 c) fullShare.right.right (G m c) ∗ sPay m 3 c ∗ sPay m 5 c)
      ∗ (pt c gM (gD 2 c) fullShare.right (G m c) ∗ pt c gM (blk (64 * qxN c) 32 0 2048) fullShare.left (G m c) ∗ sPay m 8 c)
      ∗ (pt c gM (gD 3 c) fullShare.right (G m c) ∗ pt c gM (blk (64 * qxN c + 32) 32 0 2048) fullShare.left (G m c) ∗ sPay m 9 c)
      ∗ (pt c gM (gD 4 c) fullShare.right (G m c) ∗ pt c gM (blk (64 * qzN c) 32 2048 2048) fullShare.left (G m c) ∗ sPay m 6 c)
      ∗ (pt c gM (gD 5 c) fullShare.right (G m c) ∗ pt c gM (blk (64 * qzN c + 32) 32 2048 2048) fullShare.left (G m c) ∗ sPay m 7 c)
      ∗ pt c gM (gD 6 c) fullShare (G m c) ∗ pt c gM (gD 7 c) fullShare (G m c) ∗ pt c gM (gD 8 c) fullShare (G m c) ∗ pt c gM (gD 9 c) fullShare (G m c))
    ⊢ (anyAt c gM : sProp (MT nD τ sig Unit (Elt F) ℕ UU ℕ)) := by
  have three (S : Finset gM.view.ty.Idx) : iprop(pt c gM S fullShare.right.right (G m c) ∗ pt c gM S fullShare.left (G m c) ∗ pt c gM S fullShare.right.left (G m c))
      ⊢ (pt c gM S fullShare (G m c) : sProp (MT nD τ sig Unit (Elt F) ℕ UU ℕ)) := by
    iintro ⟨H1, H2, H3⟩
    iapply pt_unhalf
    isplitl [H2]; · iexact H2
    iapply pt_unhalf
    isplitl [H3]; · iexact H3
    iexact H1
  have two {U S T : Finset gM.view.ty.Idx} (h : (pt c gM U fullShare.left (G m c) : sProp (MT nD τ sig Unit (Elt F) ℕ UU ℕ)) = iprop(pt c gM S fullShare.left (G m c) ∗ pt c gM T fullShare.left (G m c))) :
      iprop(pt c gM U fullShare.right (G m c) ∗ pt c gM S fullShare.left (G m c) ∗ pt c gM T fullShare.left (G m c)) ⊢ (pt c gM U fullShare (G m c) : sProp (MT nD τ sig Unit (Elt F) ℕ UU ℕ)) := by
    rw [← h]
    iintro ⟨H1, H2⟩
    iapply pt_unhalf
    isplitl [H2]; · iexact H2
    iexact H1
  have two' {U S T : Finset gM.view.ty.Idx} (h : (pt c gM U fullShare.left (G m c) : sProp (MT nD τ sig Unit (Elt F) ℕ UU ℕ)) = iprop(pt c gM S fullShare.left (G m c) ∗ pt c gM T fullShare.left (G m c))) :
      iprop(pt c gM U fullShare.right (G m c) ∗ pt c gM T fullShare.left (G m c) ∗ pt c gM S fullShare.left (G m c)) ⊢ (pt c gM U fullShare (G m c) : sProp (MT nD τ sig Unit (Elt F) ℕ UU ℕ)) := by
    iintro ⟨H1, H2, H3⟩
    iapply (two h)
    isplitl [H1]; · iexact H1
    isplitl [H3]; · iexact H3
    iexact H2
  iintro ⟨H0, H1, H2, H3, H4, H5, H6, H7, H8, H9⟩
  iexists (G m c)
  rw [g_parts]
  isplitl [H0]; · iapply (three (gD 0 c)); iexact H0
  isplitl [H1]; · iapply (three (gD 1 c)); iexact H1
  isplitl [H2]; · iapply (two (cols2 c _ _)); iexact H2
  isplitl [H3]; · iapply (two (cols3 c _ _)); iexact H3
  isplitl [H4]; · iapply (two' (cols4 c _ _)); iexact H4
  isplitl [H5]; · iapply (two' (cols5 c _ _)); iexact H5
  iframe

theorem s_back : iprop(pt c ssM Finset.univ fullShare.right (Sm m c) ∗ sPay m 10 c) ⊢ (anyAt c ssM : sProp (MT nD τ sig Unit (Elt F) ℕ UU ℕ)) := by
  show iprop(_ ∗ pt c ssM Finset.univ fullShare.left (Sm m c)) ⊢ _
  iintro ⟨H1, H2⟩
  iexists (Sm m c)
  iapply pt_unhalf
  isplitl [H2]; · iexact H2
  iexact H1

/-- A part of a buffer at what it holds is one at something. -/
theorem pt_some {s : Shape} {e : EltTy} {M : Memref sig .tc .vmem s e} {S : Finset M.view.ty.Idx} {f : M.view.ty.Contents (Elt F)} :
    pt c M S fullShare f ⊢ (iprop(∃ f, pt c M S fullShare f) : sProp (MT nD τ sig Unit (Elt F) ℕ UU ℕ)) := by
  iintro H; iexists f; iexact H

theorem e_cut : anyAt (F := F) c eM ⊢ (iprop((∃ f, pt c eM (rowS 4096 0 c) fullShare f) ∗ (∃ f, pt c eM (rowS 4096 1 c) fullShare f)
    ∗ (∃ f, pt c eM (rowS 4096 2 c) fullShare f) ∗ ∃ f, pt c eM (rowS 4096 3 c) fullShare f) : sProp (MT nD τ sig Unit (Elt F) ℕ UU ℕ)) := by
  iintro ⟨%f, H⟩
  ihave H := (Entails.of_eq (e_parts c _ f)) $$ H
  icases H with ⟨H0, H1, H2, H3⟩
  isplitl [H0]; · iexists f; iexact H0
  isplitl [H1]; · iexists f; iexact H1
  isplitl [H2]; · iexists f; iexact H2
  iexists f; iexact H3
theorem s_cut : anyAt (F := F) c ssM ⊢ (iprop((∃ f, pt c ssM (rowS 128 0 c) fullShare f) ∗ (∃ f, pt c ssM (rowS 128 1 c) fullShare f)
    ∗ (∃ f, pt c ssM (rowS 128 2 c) fullShare f) ∗ ∃ f, pt c ssM (rowS 128 3 c) fullShare f) : sProp (MT nD τ sig Unit (Elt F) ℕ UU ℕ)) := by
  iintro ⟨%f, H⟩
  ihave H := (Entails.of_eq (s_parts c _ f)) $$ H
  icases H with ⟨H0, H1, H2, H3⟩
  isplitl [H0]; · iexists f; iexact H0
  isplitl [H1]; · iexists f; iexact H1
  isplitl [H2]; · iexists f; iexact H2
  iexists f; iexact H3
theorem o_cut : anyAt (F := F) c oM ⊢ (iprop((∃ f, pt c oM (oS 0 c) fullShare f) ∗ (∃ f, pt c oM (oS 1 c) fullShare f)
    ∗ (∃ f, pt c oM (oS 2 c) fullShare f) ∗ (∃ f, pt c oM (oS 3 c) fullShare f) ∗ (∃ f, pt c oM (oS 4 c) fullShare f) ∗ (∃ f, pt c oM (oS 5 c) fullShare f)
    ∗ (∃ f, pt c oM (oS 6 c) fullShare f) ∗ (∃ f, pt c oM (oS 7 c) fullShare f) ∗ (∃ f, pt c oM (oS 8 c) fullShare f) ∗ ∃ f, pt c oM (oS 9 c) fullShare f) : sProp (MT nD τ sig Unit (Elt F) ℕ UU ℕ)) := by
  iintro ⟨%f, H⟩
  ihave H := (Entails.of_eq (o_parts c _ f)) $$ H
  icases H with ⟨H0, H1, H2, H3, H4, H5, H6, H7, H8, H9⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  isplitl [H7]; · iexists f; iexact H7
  isplitl [H8]; · iexists f; iexact H8
  iexists f; iexact H9

end

end Cert.SoftmaxProof

end
-- ==== Proof.K.Body.lean ====
/-
# The body on device `c`

What it starts from and what it leaves; the pieces chained.
-/
module

public import proofs.«01_k».proof.Proof.K.Whole

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

section
variable (c : Dev nD)

/-- What the body ends with. -/
def done : sProp (MT nD τ sig Unit (Elt F) ℕ UU ℕ) :=
  iprop(ow c 0 ∗ sems0 c ∗ pt c xM Finset.univ fullShare (xstg m c) ∗ pt c wM Finset.univ fullShare (wstg m c) ∗ pt c oM Finset.univ fullShare (OUT m c)
    ∗ scratch c)

set_option maxHeartbeats 8000000 in
/-- All but the body's last two waits: with what those bring, everything is back. -/
theorem part21 (R : _ → sProp (MT nD τ sig Unit (Elt F) ℕ UU ℕ)) :
    iprop(may m c ∗ ow c (oweL c dues) ∗ pt c xM Finset.univ fullShare (xstg m c) ∗ pt c wM Finset.univ fullShare (wstg m c) ∗ anyAt c oM ∗ scratch c)
      ⊢ iprop((∀ v16 v w, (ow c 0 ∗ sent m 9 c ∗ sent m 10 c
            ∗ ((ow c 0 ∗ (semVal (scell 9 c) 0 ∗ sPay m 9 c) ∗ (semVal (scell 10 c) 0 ∗ sPay m 10 c)) -∗ done m c)) -∗ R ⟨c, v16, v, w⟩)
        -∗ wpc c (app (k0_part21 (F := F))) R) := by
  unfold app may
  rw [k0_part21_eq_skeleton]; unfold k0_part21_skel
  simp only [Prog.lift, Prog.bind_op, Prog.bind_ret, Prog.pure_eq_ret]
  iintro ⟨⟨Hs0, Hs1, Hs2, Hb, ⟨C0, C1, C2, C3, C4, C5, C6, C7, C8, C9, C10⟩, ⟨A0, A1, A2, A3, A4, A5, A6, A7, A8, A9, A10⟩, #Hlev⟩, Ho, Hx, Hw, Hout, He, Hg, Hxb, Hwb, Hr, Hss, Hsr⟩ Hk
  ihave Hgive := (give_all c) $$ [Hg Hsr]
  · isplitl [Hg]; · iexact Hg
    iexact Hsr
  icases Hgive with ⟨G0, G1, G2⟩
  ihave He := (e_cut c) $$ He
  icases He with ⟨He0, He1, He2, He3⟩
  ihave Hss := (s_cut c) $$ Hss
  icases Hss with ⟨S0, S1, S2, S3⟩
  ihave Hout := (o_cut c) $$ Hout
  icases Hout with ⟨O0, O1, O2, O3, O4, O5, O6, O7, O8, O9⟩
  unfold wpc
  rw [wp_bind]
  iapplyF (part1 m c _)
  iintro %v2 %v5 %v8 %v9 %v10 %v11 %v13 %v16 %v19 %v23 %v32 Ho
  dsimp only []
  rw [wp_bind]
  iapplyF (part2 m c _ _ _ _ _ _ _)
  iintro %v57 ⟨Ho, Zb, D0, D1, D2, Hx, Hw, Hxb, Hwb⟩
  dsimp only []
  ihave HD := (got_all c) $$ [D0 D1 D2]
  · isplitl [D0]; · iexact D0
    isplitl [D1]; · iexact D1
    iexact D2
  icases HD with ⟨D0, D1, D2, D3, D4, D5, D6, D7, D8, D9, D10⟩
  rw [wp_bind]
  iapplyF (part3 m c _ _ _ _ _ _)
  iintro %v97 ⟨Ho, C0, Er0, E1, S0⟩
  rw [wp_bind]
  iapplyF (part4 m c _ _ _ _ _)
  iintro %v131 ⟨Ho, C1, Er1, Hxb, Hwb, He1, S1⟩
  dsimp only []
  rw [wp_bind]
  iapplyF (part5 m c _ _ _ _ _)
  iintro %v172 %v173 ⟨Hxb, Hwb, He2, S2, He3, S3⟩
  dsimp only []
  ihave Hss := (Entails.of_eq (s_parts c _ _).symm) $$ [S0 S1 S2 S3]
  · isplitl [S0]; · iexact S0
    isplitl [S1]; · iexact S1
    isplitl [S2]; · iexact S2
    iexact S3
  ihave He := (e_right m c) $$ [Er0 Er1 He1 He2 He3]
  · isplitl [Er0 Er1]
    · isplitl [Er0]; · iexact Er0
      iexact Er1
    isplitl [He1]; · iexact He1
    isplitl [He2]; · iexact He2
    iexact He3
  icases He with ⟨He, El1, El2, El3⟩
  rw [wp_bind]
  iapplyF (part6 m c _ _ _ _ _ _ _ _ _)
  iintro ⟨Ho, C10, Hss, Z0, P0⟩
  rw [wp_bind]
  iapplyF (part7 m c _ _ _ _ _ _ _)
  iintro %v237 %w237 ⟨Ho, C2, C4, Gr0, Z1, P1⟩
  dsimp only []
  rw [wp_bind]
  iapplyF (part8 m c _ _ _ _ _ _ _ _ _)
  iintro %v270 %w270 ⟨Ho, C3, C5, Gr1⟩
  dsimp only []
  rw [wp_bind]
  iapplyF (part9 m c _ _ _ _ _ _ _)
  iintro %v287 %w287 ⟨Ho, Z10, Hsr, Hss, Hr, He, O0, O1, Gr0, Gr1⟩
  dsimp only []
  rw [wp_bind]
  iapplyF (part10 m c _ _ _ _ _ _ _ _)
  iintro ⟨Ho, Z2, C8, Gr2, Gl2⟩
  rw [wp_bind]
  iapplyF (part11 m c _ _ _ _ _ _ _ _)
  iintro %v371 %w371 ⟨Gr2, Hr, O2, Ho, Z4, P4⟩
  dsimp only []
  rw [wp_bind]
  iapplyF (part12 m c _ _ _ _ _ _ _ _ _)
  iintro %v406 %v407 ⟨Gr4, Gl4, Hr, O4, Ho, C6⟩
  dsimp only []
  rw [wp_bind]
  iapplyF (part13 m c _ _ _ _ _ _ _ _)
  iintro ⟨Ho, Z3, C9, Gr3, Gl3, Hr⟩
  rw [wp_bind]
  iapplyF (part14 m c _ _ _ _ _ _ _)
  iintro %v475 ⟨O3, Ho, Z5, C7, Gr5, Gl5⟩
  rw [wp_bind]
  iapplyF (part15 m c _ _ _ _ _ _ _ _)
  iintro %v510 ⟨Gr5, Hr, O5, Ho, Z6, G6⟩
  dsimp only []
  rw [wp_bind]
  iapplyF (part16 m c _ _ _ _ _ _ _)
  iintro %v545 ⟨Hr, O6, Ho, Z8, G8⟩
  dsimp only []
  rw [wp_bind]
  iapplyF (part17 m c _ _ _ _ _ _ _)
  iintro ⟨O8, O7, Hr, Ho, Z7, G7⟩
  rw [wp_bind]
  iapplyF (part18 m c _ _ _ _ _ _ _)
  iintro %v576 ⟨O7, O9, Hr, Ho, Z9, G9⟩
  rw [wp_bind]
  iapplyF (part19 m c _ _ _ _)
  iintro ⟨Ho, ⟨Y0, P0⟩, ⟨Y2, P2⟩, ⟨Y4, P4⟩⟩
  rw [wp_bind]
  iapplyF (part20 m c _ _ _)
  iintro ⟨Ho, ⟨Y6, P6⟩, ⟨Y8, P8⟩, ⟨Y1, P1⟩⟩
  iapplyF (wp_dep m 3 c rfl (cr4 _))
  iintro ⟨Ho, Y3, P3⟩
  iapplyF (wp_dep m 5 c rfl (cr4 _))
  iintro ⟨Ho, Y5, P5⟩
  iapplyF (wp_dep m 7 c rfl (cr2 _))
  iintro ⟨Ho, Y7, P7⟩
  iapply (wpc_ret c)
  iapply Hk
  isplitl [Ho]; · iexact Ho
  isplitl [C9]; · iexact C9
  isplitl [C10]; · iexact C10
  iintro ⟨Ho, ⟨Y9, P9⟩, ⟨Y10, P10⟩⟩
  unfold done sems0
  isplitl [Ho]; · iexact Ho
  isplitl [Zb Y0 Y1 Y2 Y3 Y4 Y5 Y6 Y7 Y8 Y9 Y10 Z0 Z1 Z2 Z3 Z4 Z5 Z6 Z7 Z8 Z9 Z10]
  · unfold all11
    isplitl [Zb]; · iexact Zb
    isplitl [Y0 Y1 Y2 Y3 Y4 Y5 Y6 Y7 Y8 Y9 Y10]
    · iframe
    iframe
  isplitl [Hx]; · iexact Hx
  isplitl [Hw]; · iexact Hw
  isplitl [O0 O1 O2 O3 O4 O5 O6 O7 O8 O9]
  · rw [o_parts]; iframe
  isplitl [He El1 El2 El3 P0 P1]
  · iapply (e_back m c); iframe
  isplitl [Gr0 P2 P4 Gr1 P3 P5 Gr2 Gl2 P8 Gr3 Gl3 P9 Gr4 Gl4 P6 Gr5 Gl5 P7 G6 G7 G8 G9]
  · iapply (g_back m c); iframe
  isplitl [Hxb]; · iapply pt_some; iexact Hxb
  isplitl [Hwb]; · iapply pt_some; iexact Hwb
  isplitl [Hr]; · iapply pt_some; iexact Hr
  isplitl [Hss P10]
  · iapply (s_back m c); iframe
  iapply pt_some; iexact Hsr

theorem crS : ssM.view.dmaCredit = As := rfl

/-- The body. -/
theorem body (R : PUnit → sProp (MT nD τ sig Unit (Elt F) ℕ UU ℕ)) :
    iprop(may m c ∗ ow c (oweL c dues) ∗ pt c xM Finset.univ fullShare (xstg m c) ∗ pt c wM Finset.univ fullShare (wstg m c) ∗ anyAt c oM ∗ scratch c)
      ⊢ iprop((done m c -∗ R ⟨⟩) -∗ wpc c (app (cc0_body (F := F))) R) := by
  unfold app
  rw [cc0_body_eq_skeleton]; unfold cc0_body_skel
  simp only [Prog.lift, Prog.bind_op, Prog.bind_ret, Prog.pure_eq_ret]
  iintro H Hk
  unfold wpc
  rw [wp_bind]
  iapply (part21 m c _) $$ H
  iintro %v16 %v %w ⟨Ho, C9, C10, Hdone⟩
  dsimp only []
  iapplyF (wp_dep m 9 c rfl (cr2 _))
  iintro ⟨Ho, P9⟩
  iapplyF (wp_dep m 10 c rfl crS)
  iintro ⟨Ho, P10⟩
  iapply (wpc_ret c)
  iapply Hk
  iapply Hdone
  iframe

end

end Cert.SoftmaxProof

end
-- ==== Proof.K.Obligation.lean ====
/-
# The body as the launch calls it

What each device starts from and ends with, window by window.
-/
module

public import proofs.«01_k».proof.Proof.K.Body
public import proofs.«01_k».proof.Proof.Gen.KernelIdeal.Points

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (m : (ℓ : Loc nD τ sig) → Buf (Elt F) ℓ)

/-- Per window: its array as launched; its staging buffer after the body; before the body a device holds what it may do
    and its scratch buffers and owes all its dues, afterwards it has all its semaphores at zero and owes nothing. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => OUT m c
  Φ t := match t with
    | ⟨0, _⟩ => iprop(may m c ∗ scratch c)
    | ⟨_ + 1, _⟩ => iprop(sems0 c ∗ scratch c)
  q _ := fullShare
  owed t := match t with
    | ⟨0, _⟩ => oweL c dues
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) ((c : Thread nD τ).loc b), ⌜f = X⌝ ∗ (((c : Thread nD τ).loc b) ↦{fullShare} f)) := by
  unfold owns; simp only [Memref.view_whole, View.read_whole, View.set_whole]

/-- A whole buffer of device `c` at contents `X`. -/
abbrev stg (c : Dev nD) (b : Ref sig .tc) (X : b.ty.Contents (Elt F)) : sProp (MT nD τ sig Unit (Elt F) ℕ UU ℕ) :=
  iprop(∃ f : Buf (Elt F) ((c : Thread nD τ).loc b), ⌜f = X⌝ ∗ (((c : Thread nD τ).loc b) ↦{fullShare} f))

section
variable (c : Dev nD)

def bodyPre : sProp (MT nD τ sig Unit (Elt F) ℕ UU ℕ) :=
  iprop((may m c ∗ scratch c) ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost : sProp (MT nD τ sig Unit (Elt F) ℕ UU ℕ) :=
  iprop((sems0 c ∗ scratch c) ∗ (dats m 0 c).owesAt () t0_0.succ
    ∗ stg c cc0_stg0_0 (xstg m c) ∗ stg c cc0_stg1_0 (wstg m c) ∗ stg c cc0_stg2_0 (OUT m c))

theorem before_x (d) : (dats m 0 c).before (0 : Fin 3) t0_0 d = xstg m c := by
  unfold Dat.before; rw [if_pos (fetch0_0 t0_0)]; rfl
theorem before_w (d) : (dats m 0 c).before (1 : Fin 3) t0_0 d = wstg m c := by
  unfold Dat.before; rw [if_pos (fetch0_1 t0_0)]; rfl

theorem owes_in : (dats m 0 c).owesAt () t0_0.castSucc ⊢ (ow c (oweL c dues) : sProp (MT nD τ sig Unit (Elt F) ℕ UU ℕ)) := by
  unfold Dat.owesAt Pipeline.owesWithin ow
  rw [show (dats m 0 c).owed t0_0.castSucc = oweL c dues from rfl]
  iintro ⟨%W, %hW, HO⟩
  iexists W; iexact HO
theorem owes_out : (ow c 0 : sProp (MT nD τ sig Unit (Elt F) ℕ UU ℕ)) ⊢ (dats m 0 c).owesAt () t0_0.succ := by
  unfold Dat.owesAt Pipeline.owesWithin ow
  rw [show (dats m 0 c).owed t0_0.succ = 0 from rfl]
  iintro ⟨%W, HO⟩
  iexists W
  isplitr; · ipureintro; exact fun _ _ => Or.inl trivial
  iexact HO

theorem stg_pt {s : Shape} {e : EltTy} (M : Memref sig .tc .vmem s e) (X : M.view.ty.Contents (Elt F)) :
    (pt c M Finset.univ fullShare X : sProp (MT nD τ sig Unit (Elt F) ℕ UU ℕ)) ⊢ stg c M.view.ref X := by
  unfold pt
  iintro H
  iexists X
  isplitr; · ipureintro; rfl
  iexact H
theorem pt_of {s : Shape} {e : EltTy} (M : Memref sig .tc .vmem s e) (X : M.view.ty.Contents (Elt F)) :
    ((M.view.loc (c : Thread nD τ)) ↦{fullShare} X : sProp (MT nD τ sig Unit (Elt F) ℕ UU ℕ)) ⊢ pt c M Finset.univ fullShare X := by
  unfold pt; exact BI.Entails.refl _

theorem body_at : bodyPre m c ⊢ wpc c (app (cc0_body (F := F))) fun _ => bodyPost m c := by
  unfold bodyPre
  simp only [before_x, before_w]
  iintro ⟨⟨Hm, Hs⟩, Ho, ⟨%d0, %g0, %hg0, Hx⟩, ⟨%d1, %g1, %hg1, Hw⟩, ⟨%d2, %g2, %hg2, Hout⟩⟩
  subst hg0 hg1
  ihave Ho := (owes_in m c) $$ Ho
  iapply (body m c fun _ => bodyPost m c) $$ [Hm Hs Ho Hx Hw Hout]
  · isplitl [Hm]; · iexact Hm
    isplitl [Ho]; · iexact Ho
    isplitl [Hx]; · iapply (pt_of c xM (xstg m c)); iexact Hx
    isplitl [Hw]; · iapply (pt_of c wM (wstg m c)); iexact Hw
    isplitl [Hout]; · iexists g2; iapply (pt_of c oM g2); iexact Hout
    iexact Hs
  unfold done bodyPost
  iintro ⟨Ho, Hz, Hx, Hw, Hout, Hs⟩
  isplitl [Hz Hs]
  · isplitl [Hz] <;> iassumption
  isplitl [Ho]; · iapply (owes_out m c); iexact Ho
  isplitl [Hx]; · iapply (stg_pt c xM (xstg m c)); iexact Hx
  isplitl [Hw]; · iapply (stg_pt c wM (wstg m c)); iexact Hw
  iapply (stg_pt c oM (OUT m c)); iexact Hout

end

/-- The launch's obligation on the body. -/
theorem body_obligation (c : Dev nD) : BodyObligation (dats (F := F) m 0 c) (defs₀ (F := F)) 𝒱₀ () Set.univ := fun t => by
  rw [show t = t0_0 from fin_N0 t]
  rw [show (Finset.univ : Finset (Fin cfg0.W)) = (Finset.univ : Finset (Fin 3)) from rfl, bigSep_W0, bigSep_W0]
  simp only [owns_whole_eq]
  exact body_at m c

end Cert.SoftmaxProof

end
-- ==== Proof.K.Deal.lean ====
/-
# What the launch deals

The cells of all devices, their duties' tokens, and how these come to the devices that pay them.
-/
module

public import proofs.«01_k».proof.Proof.K.Obligation

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ)

local notation "𝕄" => MT nD τ sig Unit (Elt F) ℕ UU ℕ

/-! ## The cells -/

/-- A device's copies' semaphores: the sending ones, the receiving ones. -/
def osem : Fin 11 ⊕ Fin 11 → SemLoc sig
  | .inl k => .dma (sidx k)
  | .inr k => .dma (ridx k)
theorem ownSemFacts : Pipeline.OwnSemFacts cfg0.spec osem := by decide

/-- All its semaphores: the barrier's and those. -/
def csem : Unit ⊕ (Fin 11 ⊕ Fin 11) → SemLoc sig
  | .inl _ => .reg barS
  | .inr k => osem k
abbrev kcell (x : Dev nD × (Unit ⊕ (Fin 11 ⊕ Fin 11))) : GSem nD τ sig := ((x.1 : Thread nD τ), csem x.2)

theorem csem_injective : Function.Injective csem := by
  have h : Function.Injective osem := by decide
  rintro (a | a) (b | b) e
  · rfl
  · cases b <;> exact absurd e (by unfold csem osem; exact fun h => by cases h)
  · cases a <;> exact absurd e (by unfold csem osem; exact fun h => by cases h)
  · exact congrArg _ (h e)
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def theCells : Finset (GSem nD τ sig) := Finset.univ.map ⟨kcell, kcell_injective⟩

/-- The duties' tokens: three of the barrier's cell, one of each other. -/
def tokOf (x : Dev nD × (Fin 3 ⊕ (Fin 11 ⊕ Fin 11))) : GSem nD τ sig × ℕ × Fin 3 := match x.2 with
  | .inl d => (kcell (x.1, .inl ()), 0, d)
  | .inr k => (kcell (x.1, .inr k), 0, 0)
theorem tokOf_injective : Function.Injective tokOf := by
  rintro ⟨c, (d | k)⟩ ⟨c', (d' | k')⟩ h
  · have h1 := kcell_injective (congrArg Prod.fst h)
    have h2 : d = d' := congrArg (fun y : GSem nD τ sig × ℕ × Fin 3 => y.2.2) h
    have h3 : c = c' := (Prod.ext_iff.1 h1).1
    rw [h3, h2]
  · have h1 := congrArg Prod.snd (kcell_injective (congrArg Prod.fst h)); cases h1
  · have h1 := congrArg Prod.snd (kcell_injective (congrArg Prod.fst h)); cases h1
  · have h1 := kcell_injective (congrArg Prod.fst h)
    have h2 : c = c' := (Prod.ext_iff.1 h1).1
    have h3 : k = k' := Sum.inr_injective (Prod.ext_iff.1 h1).2
    rw [h2, h3]
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

theorem split_cells (Φ : Unit ⊕ (Fin 11 ⊕ Fin 11) → sProp (MT nD τ sig Unit (Elt F) ℕ UU ℕ)) : bigSep Finset.univ Φ
    = iprop(Φ (.inl ()) ∗ (bigSep Finset.univ fun k => Φ (.inr (.inl k))) ∗ bigSep Finset.univ fun k => Φ (.inr (.inr k))) := by
  rw [bigSep_univ_sum, bigSep_univ_sum, bigSep_univ_of_subsingleton ()]; rfl

theorem all11_eq (Φ : Fin 11 → sProp (MT nD τ sig Unit (Elt F) ℕ UU ℕ)) : bigSep Finset.univ Φ = all11 Φ :=
  bigSep_univ_eq_bigSepL [0, 1, 2, 3, 4, 5, 6, 7, 8, 9, 10] (by decide) (by decide) Φ
theorem all3_eq (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ

/-! ## The semaphores at zero -/

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun k => semVal (scell k c) 0) ∗ bigSep Finset.univ fun k => semVal (rcell k c) 0) := by
  unfold Pipeline.ownSems0; rw [bigSep_univ_sum]; rfl

theorem sems_start (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [split_cells, ownSems0_eq, unscopedSems0_eq]
  iintro ⟨⟨HS, HR⟩, HB⟩
  isplitl [HB]; · iexact HB
  isplitl [HS]; · iexact HS
  iexact HR
theorem sems_end (c : Dev nD) :
    (sems0 c : sProp 𝕄) ⊢ iprop(unscopedSems0 c ∗ Pipeline.ownSems0 (Ix := Unit) (Name := ℕ) (U := UU) (Lvl := ℕ) (Val := Elt F) (τ := τ) osem c) := by
  rw [ownSems0_eq, unscopedSems0_eq, all11_eq, all11_eq]
  unfold sems0
  exact BI.Entails.refl _

/-! ## The deal -/

/-- The tokens of a device's own cells. -/
def toks (c : Dev nD) : sProp 𝕄 :=
  iprop((bigSep Finset.univ fun d : Fin 3 => dutyTok ER (barCell c) 0 d) ∗ (bigSep Finset.univ fun k : Fin 11 => dutyTok ER (scell k c) 0 0)
    ∗ bigSep Finset.univ fun k : Fin 11 => dutyTok ER (rcell k c) 0 0)
/-- The tokens of the duties a device pays. -/
def payToks (c : Dev nD) : sProp 𝕄 :=
  iprop((bigSep Finset.univ fun d : Fin 3 => dutyTok ER (barCell (bpeer d c)) 0 d) ∗ (bigSep Finset.univ fun k : Fin 11 => dutyTok ER (scell k c) 0 0)
    ∗ bigSep Finset.univ fun k : Fin 11 => dutyTok ER (rcell k (peer k c)) 0 0)
/-- Its positions. -/
def pos (c : Dev nD) : sProp 𝕄 := bigSep Finset.univ fun k => atPos ER (kcell (c, k)) 0 ∅ 0

/-- What the launch deals device `c`; -/
def G₀ (c : Dev nD) : sProp 𝕄 :=
  iprop((bigSep Finset.univ fun k => roundState ER (theRd m) (kcell (c, k)) 0) ∗ (bigSep Finset.univ fun k => reached ER (kcell (c, k)) 0) ∗ pos c ∗ toks c)
/-- what all devices know; -/
def recs : sProp 𝕄 := bigSep Finset.univ fun x => known m (kcell x)
instance recs_persistent : BI.Persistent (recs m) := by unfold recs; infer_instance
/-- and what device `c` has when the cells' invariants stand and the tokens are where they are spent. -/
def G₁ (c : Dev nD) : sProp 𝕄 := iprop(recs m ∗ pos c ∗ payToks c)

theorem deal : BI.own (ER (initOf theCells theToks)) ⊢ (|==> bigSep Finset.univ (G₀ m) : sProp 𝕄) := by
  have hX (Φ : GSem nD τ sig → sProp 𝕄) : bigSep theCells Φ = bigSep Finset.univ fun c : Dev nD => bigSep Finset.univ fun k => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (theRd m) theCells theToks) $$ HX with ⟨Hst, Hr, Hat, Htok⟩
  imodintro
  ihave Hst' := (Entails.of_eq (hX fun g => roundState ER (theRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G₀ pos; simp only [bigSep_sep']
  isplitl [Hst']; · iexact Hst'
  isplitl [Hr']; · iexact Hr'
  isplitl [Hat']; · iexact Hat'
  iexact Htok'

theorem alloc (c : Dev nD) :
    iprop(Pipeline.ownSems0 (Ix := Unit) (Name := ℕ) (U := UU) (Lvl := ℕ) (Val := Elt F) (τ := τ) osem c ∗ unscopedSems0 c ∗ G₀ m c)
      ⊢ |={Set.univ}=> iprop((bigSep Finset.univ fun k => known m (kcell (c, k))) ∗ pos c ∗ toks c) := by
  unfold G₀
  iintro ⟨Hos, Hus, Hst, Hr, Hat, Htok⟩
  ihave Hv := (sems_start (F := F) c) $$ [Hos Hus]
  · isplitl [Hos] <;> iassumption
  imod (show iprop((bigSep Finset.univ fun k => semVal (kcell (c, k)) 0) ∗ bigSep Finset.univ fun k => roundState ER (theRd m) (kcell (c, k)) 0)
      ⊢ (|={Set.univ}=> bigSep Finset.univ fun k => iprop(∃ κ : ℕ, cellInv ER (theRd m) κ (kcell (c, k))) : sProp 𝕄) from by
        rw [← bigSep_sep']
        exact (bigSep_mono fun k _ => (Rounds.body_intro ER (theRd m) (kcell (c, k))).trans inv_alloc).trans (bigSep_fupd _ _)) $$ [Hv Hst] with Hinv
  · isplitl [Hv] <;> iassumption
  imodintro
  isplitl [Hinv Hr]
  · unfold known; rw [bigSep_sep']
    isplitl [Hinv] <;> iassumption
  isplitl [Hat] <;> iassumption

/-! ## The tokens go round -/

def bEquiv (d : Fin 3) : Dev nD ≃ Dev nD := ⟨bpeer d, bpeer d, bpeer_bpeer d, bpeer_bpeer d⟩
def pEquiv (k : Fin 11) : Dev nD ≃ Dev nD := ⟨peer k, peer k, peer_peer k, peer_peer k⟩

theorem toks_around : (bigSep Finset.univ fun c : Dev nD => (toks c : sProp 𝕄)) ⊢ bigSep Finset.univ fun c : Dev nD => payToks c := by
  have hb : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (bpeer d c)) 0 d := by
    rw [BI.bigSep_univ_comm, BI.bigSep_univ_comm (fun c : Dev nD => fun d : Fin 3 => (dutyTok ER (barCell (bpeer d c)) 0 d : sProp 𝕄))]
    exact bigSep_congr fun d _ => bigSep_univ_equiv (bEquiv d) (fun c : Dev nD => (dutyTok ER (barCell c) 0 d : sProp 𝕄))
  have hr : (bigSep Finset.univ fun c : Dev nD => bigSep Finset.univ fun k : Fin 11 => (dutyTok ER (rcell k c) 0 0 : sProp 𝕄))
      = bigSep Finset.univ fun c : Dev nD => bigSep Finset.univ fun k : Fin 11 => dutyTok ER (rcell k (peer k c)) 0 0 := by
    rw [BI.bigSep_univ_comm, BI.bigSep_univ_comm (fun c : Dev nD => fun k : Fin 11 => (dutyTok ER (rcell k (peer k c)) 0 0 : sProp 𝕄))]
    exact bigSep_congr fun k _ => bigSep_univ_equiv (pEquiv k) (fun c : Dev nD => (dutyTok ER (rcell k c) 0 0 : sProp 𝕄))
  unfold toks payToks
  rw [bigSep_sep', bigSep_sep', bigSep_sep', bigSep_sep', hb, hr]

theorem with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => known m (kcell (c, k))) ∗ pos c ∗ toks c) : sProp 𝕄)
      ⊢ bigSep Finset.univ (G₁ m) := by
  rw [bigSep_sep', bigSep_sep', ← bigSep_univ_prod (fun x : Dev nD × (Unit ⊕ (Fin 11 ⊕ Fin 11)) => known m (kcell x))]
  iintro ⟨HI, Hat, Htok⟩
  ihave Htk := (toks_around (F := F)) $$ Htok
  iapply (with_persistent (R := recs m) fun c _ => show iprop(recs m ∗ iprop(pos c ∗ payToks c)) ⊢ G₁ m c from BI.Entails.refl _)
  isplitl [HI]; · unfold recs; iexact HI
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G₀ m c) : sProp 𝕄)
    ⊢ |={Set.univ}=> bigSep Finset.univ (G₁ m) :=
  ((bigSep_mono fun c _ => alloc m c).trans (bigSep_fupd _ _)).trans (BI.fupd_mono (regroup m))

/-! ## The credit -/

/-- The cell at device `c` where a due of that kind is paid to it. -/
def ownCell (c : Dev nD) : Due → GSem nD τ sig
  | .sig _ => barCell c
  | .cp k => rcell k c
/-- The credit for the dues `l`. -/
def credL (c : Dev nD) : List Due → sProp 𝕄
  | [] => iprop(emp)
  | a :: l => iprop(credL c l ∗ cred (tallyAt (ownCell c a) () (dueAmt a)))

theorem cred_due (c : Dev nD) (a : Due) :
    (Pipeline.launchCred (fun d => tallyAt (dueCell d a) () (dueAmt a)) c : sProp 𝕄) ⊢ cred (tallyAt (ownCell c a) () (dueAmt a)) := by
  cases a with
  | sig e => exact Pipeline.launchCred_tallyAt (.reg barS) (bpeer e) (bpeer e) (bpeer_bpeer e) (bpeer_bpeer e) () 1 c
  | cp k => exact Pipeline.launchCred_tallyAt (.dma (ridx k)) (peer k) (peer k) (peer_peer k) (peer_peer k) () (amt k) c

theorem credL_of (c : Dev nD) : ∀ l : List Due, (Pipeline.launchCred (fun d => oweL d l) c : sProp 𝕄) ⊢ credL c l
  | [] => Entails.of_eq (Pipeline.launchCred_zero c)
  | a :: l => (Entails.of_eq (Pipeline.launchCred_add (fun d => oweL d l) (fun d => tallyAt (dueCell d a) () (dueAmt a)) c)).trans
      (BI.sep_mono (credL_of c l) (cred_due c a))

theorem creds (c : Dev nD) : (Pipeline.launchCred (fun d => oweL d dues) c : sProp 𝕄)
    ⊢ iprop(cred (tallyAt (barCell c) () 3) ∗ bigSep Finset.univ fun k : Fin 11 => cred (tallyAt (rcell k c) () (amt k))) := by
  refine (credL_of c dues).trans ?_
  rw [all11_eq]
  rw [show (tallyAt (barCell c) () 3 : CellTallies nD τ sig Unit) = tallyAt (barCell c) () 1 + (tallyAt (barCell c) () 1 + tallyAt (barCell c) () 1) by
    rw [tallyAt_add, tallyAt_add]]
  unfold dues
  show iprop((((((((((((((emp ∗ cred (tallyAt (rcell 7 c) () (amt 7))) ∗ cred (tallyAt (rcell 9 c) () (amt 9))) ∗ cred (tallyAt (rcell 6 c) () (amt 6)))
    ∗ cred (tallyAt (rcell 8 c) () (amt 8))) ∗ cred (tallyAt (rcell 5 c) () (amt 5))) ∗ cred (tallyAt (rcell 3 c) () (amt 3)))
    ∗ cred (tallyAt (rcell 4 c) () (amt 4))) ∗ cred (tallyAt (rcell 2 c) () (amt 2))) ∗ cred (tallyAt (rcell 10 c) () (amt 10)))
    ∗ cred (tallyAt (rcell 1 c) () (amt 1))) ∗ cred (tallyAt (rcell 0 c) () (amt 0))) ∗ cred (tallyAt (barCell c) () 1))
    ∗ cred (tallyAt (barCell c) () 1)) ∗ cred (tallyAt (barCell c) () 1)) ⊢ _
  iintro ⟨⟨⟨⟨⟨⟨⟨⟨⟨⟨⟨⟨⟨⟨-, H7⟩, H9⟩, H6⟩, H8⟩, H5⟩, H3⟩, H4⟩, H2⟩, H10⟩, H1⟩, H0⟩, B2⟩, B1⟩, B0⟩
  isplitl [B0 B1 B2]
  · iapply (cred_add _ _).2
    isplitl [B0]; · iexact B0
    iapply (cred_add _ _).2
    isplitl [B1]; · iexact B1
    iexact B2
  unfold all11
  iframe

/-! ## What a device may do, out of what it is dealt -/

theorem known_at (x : Dev nD × (Unit ⊕ (Fin 11 ⊕ Fin 11))) : recs m ⊢ known m (kcell x) := bigSep_elim (Finset.mem_univ x)

theorem may_intro (c : Dev nD) : iprop(G₁ m c ∗ levAts L lv ∗ Pipeline.launchCred (fun d => oweL d dues) c) ⊢ (may m c : sProp 𝕄) := by
  unfold G₁ pos payToks may
  rw [split_cells, all3_eq, ← all11_eq, ← all11_eq]
  iintro ⟨⟨#HI, ⟨Pb, Ps, Pr⟩, ⟨Tb0, Tb1, Tb2⟩, Ts, Tr⟩, Hlev, Hc⟩
  ihave Hc := (creds (F := F) c) $$ Hc
  icases Hc with ⟨Cb, Cr⟩
  isplitl [Tb0]
  · unfold canSig
    isplitr; · iapply (known_at m (bpeer 0 c, .inl ())); iexact HI
    iexact Tb0
  isplitl [Tb1]
  · unfold canSig
    isplitr; · iapply (known_at m (bpeer 1 c, .inl ())); iexact HI
    iexact Tb1
  isplitl [Tb2]
  · unfold canSig
    isplitr; · iapply (known_at m (bpeer 2 c, .inl ())); iexact HI
    iexact Tb2
  isplitl [Pb Cb]
  · unfold canBar
    isplitr; · iapply (known_at m (c, .inl ())); iexact HI
    isplitl [Pb]; · iexact Pb
    iexact Cb
  isplitl [Ps Ts Tr]
  · iapply (with_persistent (R := recs m) (Φ := fun k : Fin 11 => iprop(atPos ER (scell k c) 0 ∅ 0 ∗ dutyTok ER (scell k c) 0 0 ∗ dutyTok ER (rcell k (peer k c)) 0 0)) fun k _ => by
      unfold canSend
      iintro ⟨#HI, H⟩
      isplitr; · iapply (known_at m (c, .inr (.inl k))); iexact HI
      isplitr; · iapply (known_at m (peer k c, .inr (.inr k))); iexact HI
      iexact H)
    isplitr; · iexact HI
    rw [bigSep_sep', bigSep_sep']
    isplitl [Ps]; · iexact Ps
    isplitl [Ts] <;> iassumption
  isplitl [Pr Cr]
  · iapply (with_persistent (R := recs m) (Φ := fun k : Fin 11 => iprop(atPos ER (rcell k c) 0 ∅ 0 ∗ cred (tallyAt (rcell k c) () (amt k)))) fun k _ => by
      unfold canRecv
      iintro ⟨#HI, H⟩
      isplitr; · iapply (known_at m (c, .inr (.inr k))); iexact HI
      iexact H)
    isplitr; · iexact HI
    rw [bigSep_sep']
    isplitl [Pr]; · iexact Pr
    iexact Cr
  iexact Hlev

end Cert.SoftmaxProof

end
-- ==== Proof.K.Run.lean ====
/-
# The run

Every weakly fair execution of the kernel on the eight devices terminates with the result arrays at `OUT`, the argument
arrays as they were and every semaphore at zero.
-/
module

public import proofs.«01_k».proof.Proof.K.Deal
public import Idealize.ShloMosaic.Lib.Quiescent
public import Idealize.ShloMosaic.Lib.Pipeline.CollectiveSegs

@[expose] public section

noncomputable section

namespace Cert.SoftmaxProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

local notation "𝕄" => MT nD τ sig Unit (Elt F) ℕ UU ℕ

theorem share_eq (c : Dev nD) (w : Fin cfg0.W) : (dats m 0 c).share w = fullShare := by unfold Pipeline.Dat.share; split <;> rfl

/-- What device `c` starts with once the launch is done. -/
theorem start_intro (c : Dev nD) :
    iprop(Pipeline.unscopedRestP Pipeline.Prefetch.none cfg0.spec c (fun b => m ((c : Thread nD τ).loc b)) ∗ levAts L lv
        ∗ Pipeline.launchCred (fun d => oweL d dues) c ∗ prngReg c (ρ c) ∗ G₁ m c)
      ⊢ |={Set.univ}=> (iprop(may m c ∗ emp) : sProp 𝕄) := by
  iintro ⟨-, Hlev, Hcr, -, HG⟩
  imodintro
  isplitl
  · iapply (may_intro m c)
    isplitl [HG]; · iexact HG
    isplitl [Hlev] <;> iassumption
  · iempintro

theorem scratch_eq (c : Dev nD) : (Pipeline.scopedRest cfg0.spec c : sProp 𝕄) = scratch c := scopedRest0_eq c

theorem first_intro (c : Dev nD) :
    iprop(may m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(may m c ∗ scratch c) from rfl, scratch_eq]
  iintro ⟨Hs, -, Hr⟩
  isplitl [Hs] <;> iassumption

theorem last_elim (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(sems0 c ∗ scratch c) from rfl, scratch_eq]
  iintro ⟨Hz, Hr⟩
  ihave Hz := (sems_end (F := F) c) $$ Hz
  icases Hz with ⟨HU, HO⟩
  isplitl [HU]; · iexact HU
  isplitl [HO] <;> iassumption

/-- The staging buffers' semaphores lie below all a device owes. -/
theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () = 0 := by
      fin_cases w <;> fin_cases s <;> rfl
    rcases t with ⟨_ | _, ht⟩
    · exact mayWait c _ dues fun a _ => by
        rw [h0]
        cases a with
        | sig d => exact Nat.one_pos
        | cp k => show 0 < lvD (ridx k); revert k; decide
    · exact mayWait c _ [] fun a h => absurd h List.not_mem_nil

/-- The arrays after the run. -/
def finalA (c : Dev nD) (w : Fin cfg0.W) : Buf (Elt F) ((cfg0.win w).arr.view.loc (c : Thread nD τ)) := (dats m 0 c).arrAt w cfg0.N

set_option maxRecDepth 8000 in
theorem run_main : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun c => oweL c dues) (howed₀ := fun _ => rfl) (howedN := fun _ => rfl)
    (L := L) (lv := lv) (hL := L_of_ne) (hwaits := waits m)
    (G := G₀ m) (G' := G₁ m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := may m) (Y := fun c => unscopedSems0 c) (Z := fun _ => iprop(emp))
    (hX := start_intro m ρ) (hin := first_intro m) (hout := last_elim m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

theorem finalA_x (c : Dev nD) : finalA m c (0 : Fin 3) = m ((c : Thread nD τ).loc main_arg0) := (dats m 0 c).arrAt_in (0 : Fin 3) rfl _
theorem finalA_w (c : Dev nD) : finalA m c (1 : Fin 3) = m ((c : Thread nD τ).loc main_arg1) := (dats m 0 c).arrAt_in (1 : Fin 3) rfl _
theorem finalA_o (c : Dev nD) : finalA m c (2 : Fin 3) = OUT m c := by
  have h : (win0_2.blk (0 : Fin 1)).view.read (Elt F) (finalA m c (2 : Fin 3)) = OUT m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  have hr := fun f => Memref.read_access_unit_zero (Elt F) main_v1 hz (fun a => by fin_cases a <;> decide) f
  exact (hr _).symm.trans h

/-- The run, read at the named arrays. -/
theorem run : θ_run defs (onTc (τ := τ) (main (F := F))) ⟨m, fun _ => 0, ρ⟩ (fun r =>
    (∀ c : Dev nD, r.2.mem ((c : Thread nD τ).loc main_v1) = OUT m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (finalA_o m c), (h.1 c (0 : Fin 3)).trans (finalA_x m c),
    (h.1 c (1 : Fin 3)).trans (finalA_w m c)⟩, h.2⟩) (run_main m ρ)

end Cert.SoftmaxProof

end
-- ==== Proof.Math.Kernel.lean ====
/-
# What the kernel computes, at the exact values

Where the devices hold `x` and their half of `w`'s columns, every device's result is the exponential of the logit times
one over the sum of the row's exponentials.
-/
module

public import proofs.«01_k».proof.Proof.K.Contents
public import Idealize.ShloMosaic.Lib.Layout
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.SoftmaxProof

open Cert.KernelIdeal Cert.KernelIdeal.Gen
open Idealize.ShloMosaic
open Idealize.ShloMosaic.TcCoe
open Idealize.ShloMosaic.ValueIdx (ix1 ix2 eq_ix2)
open scoped BigOperators

/-- The product `x w` at row `r` and column `j`. -/
def logit (x : FVec Ideal S256x512 .f32) (w : FVec Ideal ⟨2, ![512, 8192]⟩ .f32) (r : Fin 256) (j : Fin 8192) : EReal :=
  ∑ k : Fin 512, x (ix2 r k) * w (ix2 k j)

/-- Column `j` of device `c`'s half, among all the columns. -/
def ycol (c : Dev nD) (j : Fin 4096) : Fin 8192 := ⟨4096 * ((c.val / 2) % 2) + j.val, by have := j.isLt; omega⟩

/-! ## The payloads at an index -/

theorem pay1_ideal (v : FVec Ideal S256x512 .f32) (i : S256x512.Idx) : (k0_pay1 (F := Ideal) v i : EReal) = v i := by
  unfold k0_pay1; simp only [shapeCast_self]; rfl

theorem pay2_ideal (v : FVec Ideal S512x4096 .f32) (i : S512x4096.Idx) : (k0_pay2 (F := Ideal) v i : EReal) = v i := by
  unfold k0_pay2; simp only [shapeCast_self]; rfl

theorem pay3_ideal (a : FVec Ideal S64x512 .bf16) (b : FVec Ideal S512x4096 .bf16) (r : Fin 64) (j : Fin 4096) :
    (k0_pay3 (F := Ideal) a b (ix2 r j) : EReal) = Ideal.exp (∑ k : Fin 512, a (ix2 r k) * b (ix2 k j)) := by
  have h := Ideal.matmul_plain_apply none a b (constant (F := Ideal) S64x4096 .f32 0x00000000#32) r j
  rw [ValueIdx.constant_apply, Ideal.ofBits_zero_f32, zero_add] at h
  exact congrArg Ideal.exp h

theorem pay5_ideal (a : FVec Ideal S64x512 .bf16) (b : FVec Ideal S512x4096 .bf16) (i : S64x4096.Idx) :
    (k0_pay5 (F := Ideal) (k0_pay4 a b) i : EReal) = k0_pay3 (F := Ideal) a b i := by
  unfold k0_pay5 k0_pay4; simp only [shapeCast_self]; rfl

theorem pay6_ideal (v : FVec Ideal S64x4096 .f32) (r : Fin 64) (q : Fin 128) :
    (k0_pay6 (F := Ideal) v (ix2 r q) : EReal) = ∑ j : Fin 4096, v (ix2 r j) := by
  unfold k0_pay6
  simp only [shapeCast_self]
  rw [broadcastTo_apply _ _ (ix2 r q) (ix2 r (0 : Fin 1)) (fun a => by fin_cases a <;> rfl),
    shapeCast_apply _ _ (ix2 r (0 : Fin 1)) (ix1 r) (by
      rw [Shape.rowMajor_val_one, Shape.rowMajor_val_two]; show r.val = r.val * 1 + 0; omega)]
  refine (Ideal.reduceAdd_single reduces_S64x4096_S64 v (ix1 r)).trans ?_
  exact Finset.sum_congr rfl fun j _ => congrArg v (funext fun a => Fin.ext (by fin_cases a <;> rfl))

theorem pay16_ideal (a b : FVec Ideal S256x1 .f32) (i : S256x1.Idx) : (k0_pay16 (F := Ideal) a b i : EReal) = Ideal.div 1 (a i + b i) := by
  show Ideal.div (Ideal.ofBits .f32 0x3F800000#32) (a i + b i) = _
  rw [Ideal.ofBits_one_f32]

/-! ## The staged inputs -/

section Staged
variable {F : FTy → Type} [FloatOps F] (m : (ℓ : Loc nD τ sig) → Buf (Elt F) ℓ)

theorem xstg_eq (c : Dev nD) : xstg m c = m ((c : Thread nD τ).loc main_arg0) :=
  Memref.read_access_unit_zero (Elt F) main_arg0 (funext fun a => by fin_cases a <;> decide) (fun a => by fin_cases a <;> decide) _

theorem wstg_eq (c : Dev nD) : wstg m c = m ((c : Thread nD τ).loc main_arg1) :=
  Memref.read_access_unit_zero (Elt F) main_arg1 (funext fun a => by fin_cases a <;> decide) (fun a => by fin_cases a <;> decide) _

end Staged

/-! ## The result -/

variable (m : (ℓ : Loc nD τ sig) → Buf (Elt Ideal) ℓ)
variable (x : FVec Ideal S256x512 .f32) (w : FVec Ideal ⟨2, ![512, 8192]⟩ .f32)

/-- Every device holds `x` and its half of `w`'s columns. -/
def Holds : Prop := ∀ c : Dev nD, m ((c : Thread nD τ).loc main_arg0) = x
  ∧ m ((c : Thread nD τ).loc main_arg1)
    = Layout.blockN ⟨2, ![512, 4096]⟩ ⟨2, ![512, 8192]⟩ (Layout.meshBlock [2, 2, 2] ![[], [1]] c) w

variable {m x w}

theorem X1_at (h : Holds m x w) (c : Dev nD) (i : S256x512.Idx) : X1 m c i = x i := by
  unfold X1; rw [pay1_ideal, xstg_eq, (h c).1]

theorem half_at (h : Holds m x w) (c : Dev nD) (k : Fin 512) (j : Fin 4096) :
    m ((c : Thread nD τ).loc main_arg1) (ix2 k j) = w (ix2 k (ycol c j)) := by
  rw [(h c).2, Layout.blockN_apply]
  refine congrArg w (funext fun a => Fin.ext ?_)
  rw [Layout.TilesN.idx_val, Layout.meshBlock_val]
  fin_cases a
  · show 0 * 512 + k.val = k.val; omega
  · show (c.val / 2 % 2 * 1 + 0) * 4096 + j.val = 4096 * (c.val / 2 % 2) + j.val; omega

theorem W1_at (h : Holds m x w) (c : Dev nD) (k : Fin 512) (j : Fin 4096) : W1 m c (ix2 k j) = w (ix2 k (ycol c j)) := by
  unfold W1; rw [pay2_ideal, wstg_eq, half_at h]

theorem exp_at (h : Holds m x w) (c : Dev nD) (r : Fin 256) (j : Fin 4096) :
    k0_pay3 (xrow m c (rowB r)) (W1 m c) (ix2 (rowR r) j) = Ideal.exp (logit x w r (ycol c j)) := by
  rw [pay3_ideal]
  refine congrArg Ideal.exp (Finset.sum_congr rfl fun k _ => ?_)
  rw [W1_at h]
  refine congrArg (· * _) ((X1_at h c _).trans (congrArg x (funext fun a => Fin.ext ?_)))
  fin_cases a
  · show 64 * (r.val / 64) + r.val % 64 = r.val; omega
  · rfl

theorem E_at (h : Holds m x w) (c : Dev nD) (r : Fin 256) (j : Fin 4096) :
    E m c (ix2 r j) = Ideal.exp (logit x w r (ycol c j)) :=
  (pay5_ideal _ _ _).trans (exp_at h c r j)

theorem Sm_at (h : Holds m x w) (c : Dev nD) (r : Fin 256) (q : Fin 128) :
    Sm m c (ix2 r q) = ∑ j : Fin 4096, Ideal.exp (logit x w r (ycol c j)) :=
  (pay6_ideal _ _ _).trans (Finset.sum_congr rfl fun j _ => exp_at h c r j)

/-- The two halves' sums, whichever comes first, are the sum over all the columns. -/
theorem sum_halves (f : Fin 8192 → EReal) (c : Dev nD) :
    ∑ j : Fin 4096, f (ycol c j) + ∑ j : Fin 4096, f (ycol (pP c) j) = ∑ j : Fin 8192, f j := by
  have hs : ∑ j : Fin 8192, f j
      = ∑ j : Fin 4096, f ⟨j.val, by have := j.isLt; omega⟩ + ∑ j : Fin 4096, f ⟨4096 + j.val, by have := j.isLt; omega⟩ :=
    Fin.sum_univ_add (a := 4096) (b := 4096) f
  have hp : ((pP c).val / 2) % 2 = 1 - (c.val / 2) % 2 := by revert c; decide
  have e : ∀ (d : Dev nD) (y : ℕ) (hy : (d.val / 2) % 2 = y) (h1 : y < 2),
      ∑ j : Fin 4096, f (ycol d j) = ∑ j : Fin 4096, f ⟨4096 * y + j.val, by have := j.isLt; omega⟩ := fun d y hy _ =>
    Finset.sum_congr rfl fun j _ => congrArg f (Fin.ext (by show 4096 * (d.val / 2 % 2) + j.val = _; rw [hy]))
  rcases Nat.lt_or_ge ((c.val / 2) % 2) 1 with h0 | h0
  · rw [e c 0 (by omega) (by omega), e (pP c) 1 (by omega) (by omega), hs]
    exact congrArg (· + _) (Finset.sum_congr rfl fun j _ => congrArg f (Fin.ext (by show 4096 * 0 + j.val = j.val; omega)))
  · rw [e c 1 (by omega) (by omega), e (pP c) 0 (by omega) (by omega), hs, add_comm]
    exact congrArg (· + _) (Finset.sum_congr rfl fun j _ => congrArg f (Fin.ext (by show 4096 * 0 + j.val = j.val; omega)))

theorem inv_at (h : Holds m x w) (c : Dev nD) (r : Fin 256) :
    inv m c (ix2 r 0) = Ideal.div 1 (∑ j : Fin 8192, Ideal.exp (logit x w r j)) := by
  unfold inv
  rw [pay16_ideal]
  refine congrArg (Ideal.div 1) ?_
  rw [← sum_halves (fun j => Ideal.exp (logit x w r j)) c]
  exact congrArg₂ (· + ·) (Sm_at h c r 0) (Sm_at h (pP c) r 0)

theorem owner_y (c : Dev nD) (b : Fin 4) : ((owner c b).val / 2) % 2 = 1 - (c.val / 2) % 2 := by revert c b; decide

/-- Every device's result. -/
theorem OUT_at (h : Holds m x w) (c : Dev nD) (r : Fin 256) (j : Fin 8192) :
    OUT m c (ix2 r j) = Ideal.exp (logit x w r j) * Ideal.div 1 (∑ k : Fin 8192, Ideal.exp (logit x w r k)) := by
  have hj := j.isLt
  refine congrArg₂ (· * ·) ?_ (inv_at h c r)
  by_cases hy : j.val / 4096 = (c.val / 2) % 2
  · refine (congrFun (if_pos hy) _).trans ((E_at h c r _).trans (congrArg (fun q => Ideal.exp (logit x w r q)) (Fin.ext ?_)))
    show 4096 * (c.val / 2 % 2) + j.val % 4096 = j.val; omega
  · refine (congrFun (if_neg hy) _).trans ((E_at h (owner c (rowB r)) r _).trans
      (congrArg (fun q => Ideal.exp (logit x w r q)) (Fin.ext ?_)))
    have ho : ((owner c (rowB r)).val / 2) % 2 = 1 - (c.val / 2) % 2 := by
      exact owner_y c (rowB r)
    show 4096 * ((owner c (rowB r)).val / 2 % 2) + j.val % 4096 = j.val; omega

end Cert.SoftmaxProof

end
-- ==== Proof.Math.Softmax.lean ====
/-
# Softmax with and without subtracting the row's maximum

For finite logits the two quotients are the same extended real, whatever finite number is subtracted.
-/
module

public import Idealize.ShloMosaic.PureOps.Ideal

@[expose] public section

noncomputable section

namespace Cert.SoftmaxProof

open Idealize.ShloMosaic
open scoped BigOperators

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by one that is not zero is the real quotient. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (a : ℝ) : Ideal.exp (a : EReal) = ((Real.exp a : ℝ) : EReal) := rfl

/-- A row's greatest entry, taken from `⊥` upwards, is one of its entries. -/
theorem fold_max_mem {n : ℕ} (l : Fin (n + 1) → EReal) : ∃ k, Finset.univ.fold max ⊥ l = l k := by
  obtain ⟨k, _, hk⟩ := Finset.exists_mem_eq_sup Finset.univ Finset.univ_nonempty l
  exact ⟨k, hk⟩

/-- The quotient of exponentials is unchanged when a finite `M` is subtracted from every finite logit. -/
theorem softmax_shift {n : ℕ} (l : Fin (n + 1) → ℝ) (M : ℝ) (j : Fin (n + 1)) :
    Ideal.div (Ideal.exp ((l j : EReal) - (M : EReal))) (∑ k, Ideal.exp ((l k : EReal) - (M : EReal)))
      = Ideal.exp (l j : EReal) * Ideal.div 1 (∑ k, Ideal.exp (l k : EReal)) := by
  have hs : ∀ f : Fin (n + 1) → ℝ, (∑ k, Real.exp (f k)) ≠ 0 := fun f =>
    (Finset.sum_pos (fun k _ => Real.exp_pos (f k)) Finset.univ_nonempty).ne'
  have h1 : ∑ k, Ideal.exp ((l k : EReal) - (M : EReal)) = ((∑ k, Real.exp (l k - M) : ℝ) : EReal) := by
    rw [coe_sum]; exact Finset.sum_congr rfl fun k _ => by rw [← EReal.coe_sub, exp_coe]
  have h2 : ∑ k, Ideal.exp (l k : EReal) = ((∑ k, Real.exp (l k) : ℝ) : EReal) := by rw [coe_sum]; rfl
  have h3 : ∑ k, Real.exp (l k - M) = (∑ k, Real.exp (l k)) * Real.exp (-M) := by
    rw [Finset.sum_mul]; exact Finset.sum_congr rfl fun k _ => by rw [← Real.exp_add, sub_eq_add_neg]
  rw [h1, h2, ← EReal.coe_sub, exp_coe, exp_coe, div_coe _ _ (hs fun k => l k - M), ← EReal.coe_one, div_coe _ _ (hs l),
    ← EReal.coe_mul, h3]
  congr 1
  have := hs l
  have := (Real.exp_pos (-M)).ne'
  rw [sub_eq_add_neg, Real.exp_add]
  field_simp

end Cert.SoftmaxProof

end
-- ==== Proof.Math.Reference.lean ====
/-
# What the reference computes, at the exact values

Where the logits are finite, its softmax, which subtracts each row's maximum, is the exponential of the logit times one
over the sum of the row's exponentials.
-/
module

public import proofs.«01_k».proof.Proof.Math.Softmax
public import proofs.«01_k».proof.Proof.Gen.ReferenceIdeal.Run
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.SoftmaxProof.Ref

open Cert.ReferenceIdeal Cert.ReferenceIdeal.Gen
open Idealize.ShloMosaic Idealize.ShloMosaic.TcCoe Idealize.SL.Sem
open Idealize.ShloMosaic.ValueIdx (ix0 ix1 ix2)
open scoped BigOperators

variable (x : FVec Ideal S256x512 .f32) (w : FVec Ideal S512x8192 .f32)

/-- The logits, `x w`. -/
def logits : FVec Ideal S256x8192 .f32 := Host.dotGeneral dot_S256x512_S512x8192_S256x8192_1_0_0_1_n_n none x w

/-- One number a row, written along the row. -/
def alongRow (v : FVec Ideal S256 .f32) : FVec Ideal S256x8192 .f32 :=
  broadcastInDim S256x8192 ![0, 1] bcast_S256x1_S256x8192_0_1 (broadcastInDim S256x1 ![0] bcast_S256_S256x1_0 v)

/-- Each row's maximum. -/
def rowMax : FVec Ideal S256 .f32 :=
  Host.reduce FloatOps.maximumf (logits x w) (constant S_ .f32 0xFF800000#32) reducesTo_S256x8192_S256_d1 h_S_

/-- The exponentials of the logits less their row's maximum. -/
def shifted : FVec Ideal S256x8192 .f32 := Host.exp (subf (logits x w) (alongRow (rowMax x w)))

/-- The reference's result. -/
def out : FVec Ideal S256x8192 .f32 :=
  Host.divf (shifted x w)
    (alongRow (Host.reduceAdd (shifted x w) (constant S_ .f32 0x00000000#32) reducesTo_S256x8192_S256_d1 h_S_))

theorem reduces_row : S256x8192.Reduces [1] S256 := by decide

theorem lift_row (r : Fin 256) (j : Fin 8192) : reduces_row.lift (ix1 r) j = ix2 r j :=
  funext fun a => Fin.ext (by fin_cases a <;> rfl)

theorem alongRow_at (v : FVec Ideal S256 .f32) (r : Fin 256) (j : Fin 8192) : alongRow v (ix2 r j) = v (ix1 r) := by
  unfold alongRow
  rw [broadcastInDim_apply _ _ _ (ix2 r j) (ix2 r (0 : Fin 1)) (fun a => by fin_cases a <;> rfl),
    broadcastInDim_apply _ _ _ (ix2 r (0 : Fin 1)) (ix1 r) (fun a => by fin_cases a; rfl)]

theorem logits_at (r : Fin 256) (j : Fin 8192) : (logits x w (ix2 r j) : EReal) = ∑ k : Fin 512, x (ix2 r k) * w (ix2 k j) :=
  (Ideal.matmul_plain_apply none x w (fun _ => (0 : EReal)) r j).trans (zero_add _)

/-- A row's maximum is one of the row's logits. -/
theorem rowMax_at (r : Fin 256) : ∃ k : Fin 8192, rowMax x w (ix1 r) = logits x w (ix2 r k) := by
  obtain ⟨k, hk⟩ := fold_max_mem (n := 8191) fun k : Fin 8192 => (logits x w (ix2 r k) : EReal)
  refine ⟨k, Eq.trans ?_ hk⟩
  unfold rowMax
  rw [Host.reduce_eq_fold_single FloatOps.maximumf (logits x w) _ reducesTo_S256x8192_S256_d1 reduces_row h_S_ (ix1 r)]
  have hb : Ideal.ofBits .f32 0xFF800000#32 = ⊥ := by simp [Ideal.ofBits, Ideal.ieee]
  have hf : (logits x w ∘ reduces_row.lift (ix1 r)) = fun k : Fin 8192 => logits x w (ix2 r k) :=
    funext fun k => congrArg (logits x w) (lift_row r k)
  rw [hf]
  exact congrArg (fun b : EReal => Finset.univ.fold max b fun k : Fin 8192 => (logits x w (ix2 r k) : EReal)) hb

theorem out_at (r : Fin 256) (j : Fin 8192) (l : Fin 8192 → ℝ) (hl : ∀ k, (logits x w (ix2 r k) : EReal) = (l k : EReal)) :
    (out x w (ix2 r j) : EReal)
      = Ideal.exp (logits x w (ix2 r j)) * Ideal.div 1 (∑ k : Fin 8192, Ideal.exp (logits x w (ix2 r k))) := by
  obtain ⟨q, hq⟩ := rowMax_at x w r
  have hs : ∀ k : Fin 8192, (shifted x w (ix2 r k) : EReal) = Ideal.exp ((l k : EReal) - (l q : EReal)) := fun k => by
    show Ideal.exp ((logits x w (ix2 r k) : EReal) - alongRow (rowMax x w) (ix2 r k)) = _
    rw [alongRow_at, hq, hl, hl]
  have hd : (out x w (ix2 r j) : EReal) = Ideal.div (shifted x w (ix2 r j)) (∑ k : Fin 8192, (shifted x w (ix2 r k) : EReal)) := by
    unfold out
    rw [ValueIdx.hostDivf_apply, alongRow_at, ValueIdx.hostReduceAdd_apply, Ideal.hostReduceAdd_single reducesTo_S256x8192_S256_d1 reduces_row,
      ValueIdx.constant_apply, Ideal.ofBits_zero_f32, zero_add]
    exact congrArg (Ideal.div _) (Finset.sum_congr rfl fun k _ => congrArg (shifted x w) (lift_row r k))
  rw [hd, hs, Finset.sum_congr rfl fun k _ => hs k, softmax_shift (n := 8191) l (l q) j, hl,
    Finset.sum_congr rfl fun k _ => congrArg Ideal.exp (hl k)]

/-- The reference runs, and its result is `out` of its arguments. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v9) = out (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0 :=
  (θ_run defs _ _).mono (fun r h => ⟨h, sem_eq_zero_of_no_sems (by decide) r.2⟩) (Value.run (F := Ideal) m ρ)

end Cert.SoftmaxProof.Ref

end
-- ==== Proof.Math.Finite.lean ====
/-
# The precondition read back: every logit is a real number

Where no entry of `x` or of a device's part of `w` is infinite, every entry is a real number, and so is every sum of products.
-/
module

public import proofs.«01_k».proof.Proof.Math.Softmax
public import proofs.«01_k».proof.Proof.Math.Kernel
public import proofs.«01_k».proof.Proof.Gen.Pre_finite_KernelIdeal
public import Idealize.ShloMosaic.Lib.ReduceAll

@[expose] public section

noncomputable section

namespace Cert.SoftmaxProof

open Idealize.ShloMosaic Idealize.ShloMosaic.TcCoe
open Idealize.ShloMosaic.ValueIdx (ix0 ix2)
open scoped BigOperators

/-- An extended real whose absolute value is below `⊤` is a real. -/
theorem real_of_abs_lt (a : EReal) (h : max a (-a) < ⊤) : ∃ r : ℝ, a = (r : EReal) := by
  induction a using EReal.rec with
  | bot => simp at h
  | coe r => exact ⟨r, rfl⟩
  | top => simp at h

/-- `all (|v| < inf)` is one only where every entry of `v` is a real. -/
theorem real_of_all {s : Shape} {axes : List (Fin s.rank)} (v : FVec Ideal s .f32)
    (hb : (⟨0, ![]⟩ : Shape).BroadcastsInDim s ![]) (hr : s.ReducesTo axes ⟨0, ![]⟩) (hu : 0 < (⟨0, ![]⟩ : Shape).numel)
    (h : Host.reduce IntOp.andi (cmpf .olt (Host.absf v) (broadcastInDim s ![] hb (constant ⟨0, ![]⟩ .f32 0x7F800000#32)))
      (constantI ⟨0, ![]⟩ 1 1#1) hr hu ix0 = 1#1) (i : s.Idx) : ∃ r : ℝ, (v i : EReal) = (r : EReal) := by
  haveI : Subsingleton (⟨0, ![]⟩ : Shape).Idx := ⟨fun a b => funext fun z => z.elim0⟩
  have h1 := Host.reduce_andi_all _ _ hr hu ix0 h i
  have ht : Ideal.ofBits .f32 0x7F800000#32 = ⊤ := by simp [Ideal.ofBits, Ideal.ieee]
  have h2 : BitVec.ofBool (decide (max (v i : EReal) (-(v i : EReal)) < Ideal.ofBits .f32 0x7F800000#32)) = 1#1 := by
    have e := ValueIdx.broadcastInDim_scalar_apply hb (constant (F := Ideal) ⟨0, ![]⟩ .f32 0x7F800000#32) i
    rw [ValueIdx.constant_apply] at e
    rw [← e]; exact h1
  rw [ht] at h2
  refine real_of_abs_lt _ (by_contra fun hn => ?_)
  rw [decide_eq_false hn] at h2
  exact absurd h2 (by decide)

/-- The precondition on one device: its blocks' entries are reals. -/
theorem real_of_fn (a : FVec Ideal ⟨2, ![256, 512]⟩ .f32) (b : FVec Ideal ⟨2, ![512, 4096]⟩ .f32)
    (h : Cert.Pre_finite_KernelIdeal.fn (F := Ideal) a b = fun _ => 1#1) :
    (∀ i, ∃ r : ℝ, (a i : EReal) = (r : EReal)) ∧ ∀ i, ∃ r : ℝ, (b i : EReal) = (r : EReal) := by
  obtain ⟨h1, h2⟩ := IntOp.andi_eq_one.1 (congrFun h ix0)
  exact ⟨real_of_all a _ _ _ h1, real_of_all b _ _ _ h2⟩

/-- A sum of products of reals is a real. -/
theorem sum_real {ι : Type} (s : Finset ι) (f g : ι → EReal) (hf : ∀ i, ∃ r : ℝ, f i = (r : EReal))
    (hg : ∀ i, ∃ r : ℝ, g i = (r : EReal)) : ∃ r : ℝ, ∑ i ∈ s, f i * g i = (r : EReal) := by
  choose p hp using hf
  choose q hq using hg
  exact ⟨∑ i ∈ s, p i * q i, by rw [coe_sum]; exact Finset.sum_congr rfl fun i _ => by rw [hp, hq, EReal.coe_mul]⟩

open Cert.KernelIdeal in
/-- Under the precondition every logit is a real. -/
theorem logit_real {m : (ℓ : Loc nD τ sig) → Buf (Elt Ideal) ℓ} {x : FVec Ideal S256x512 .f32}
    {w : FVec Ideal ⟨2, ![512, 8192]⟩ .f32} (h : Holds m x w)
    (hf : ∀ c : Dev nD, Cert.Pre_finite_KernelIdeal.fn (F := Ideal) (m ((c : Thread nD τ).loc main_arg0))
      (m ((c : Thread nD τ).loc main_arg1)) = fun _ => 1#1) (r : Fin 256) (j : Fin 8192) :
    ∃ t : ℝ, logit x w r j = (t : EReal) := by
  have hj := j.isLt
  refine sum_real _ _ _ (fun k => ?_) (fun k => ?_)
  · obtain ⟨t, ht⟩ := (real_of_fn _ _ (hf (0 : Dev nD))).1 (ix2 r k)
    exact ⟨t, (congrFun (h (0 : Dev nD)).1 (ix2 r k)).symm.trans ht⟩
  · obtain ⟨c, hc⟩ : ∃ c : Dev nD, (c.val / 2) % 2 = j.val / 4096 :=
      ⟨⟨2 * (j.val / 4096), show _ < 8 by omega⟩, by show 2 * (j.val / 4096) / 2 % 2 = _; omega⟩
    obtain ⟨t, ht⟩ := (real_of_fn _ _ (hf c)).2 (ix2 k ⟨j.val % 4096, Nat.mod_lt _ (by decide)⟩)
    refine ⟨t, Eq.trans (congrArg (fun q => w (ix2 k q)) (Fin.ext ?_)) ((half_at h c k _).symm.trans ht)⟩
    show j.val = 4096 * (c.val / 2 % 2) + j.val % 4096; omega

end Cert.SoftmaxProof

end
-- ==== Proof.lean ====
/-
# The certificate

The kernel's one run, at the bit patterns and at the exact values, gives its two frames; the reference's gives the third.
At the exact values the run's result is `OUT`, the reference's is `Ref.out`, and where the inputs are finite the two agree.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.K.Run
public import proofs.«01_k».proof.Proof.Math.Kernel
public import proofs.«01_k».proof.Proof.Math.Reference
public import proofs.«01_k».proof.Proof.Math.Finite
public import Idealize.ShloMosaic.Adequacy
public import Idealize.ShloMosaic.Init

@[expose] public section

noncomputable section

namespace Cert.Proof

open Idealize.ShloMosaic Idealize.ShloMosaic.TcCoe Idealize.SL.Sem
open Idealize.ShloMosaic.ValueIdx (ix2 eq_ix2)
open Cert.SoftmaxProof

/-- Over any float values the kernel and its ideal program run the same body under each label. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) :=
  congrArg (Pipeline.defs Cert.KernelIdeal.pcfgs) bodies_eq

/-- The kernel's arguments end unchanged and its counters at zero, over any float values and from any body table `D` that is
the kernel's. -/
theorem frame_of_run {F : FTy → Type} [FloatOps F]
    {D : Defs Cert.KernelIdeal.nD Cert.KernelIdeal.τ Cert.KernelIdeal.sig (Elt F) (Pipeline.Sig Cert.KernelIdeal.Λ₀ (Fin 1) fun p => (Cert.KernelIdeal.pcfgs (F := F) p).Adm)}
    (hD : D = Cert.KernelIdeal.defs (F := F))
    (m : (ℓ : Loc Cert.KernelIdeal.nD Cert.KernelIdeal.τ Cert.KernelIdeal.sig) → Buf (Elt F) ℓ) (ρ : Dev Cert.KernelIdeal.nD → PrngReg) :
    θ_run D (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) := by
  subst hD
  exact (θ_run Cert.KernelIdeal.defs _ _).mono (fun _ h => ⟨fun c => (h.1 c).2, h.2⟩) (Cert.SoftmaxProof.run m ρ)

theorem frame_kernel : Cert.quiescent_Kernel := fun m ρ _ => frame_of_run (F := Bits) defs_eq m ρ
theorem frame_ideal : Cert.quiescent_KernelIdeal := fun m ρ _ => frame_of_run (F := Ideal) rfl m ρ
theorem frame_ideal_finite : Cert.quiescent_KernelIdeal_pre_finite_KernelIdeal := fun m ρ _ => frame_of_run (F := Ideal) rfl m ρ

theorem frame_reference : Cert.quiescent_ReferenceIdeal := fun m ρ _ =>
  (θ_run Cert.ReferenceIdeal.defs _ _).mono (fun _ h => ⟨fun c => (h.1 c).2, h.2⟩) (Ref.run m ρ)
theorem frame_reference_finite : Cert.quiescent_ReferenceIdeal_pre_finite_ReferenceIdeal := fun m ρ _ => frame_reference m ρ trivial

/-- On every device each entry of the kernel's result is the reference's, where the inputs are finite. -/
theorem OUT_at_eq_out {m : (ℓ : Loc Cert.KernelIdeal.nD Cert.KernelIdeal.τ Cert.KernelIdeal.sig) → Buf (Elt Ideal) ℓ}
    {x : FVec Ideal ⟨2, ![256, 512]⟩ .f32} {w : FVec Ideal ⟨2, ![512, 8192]⟩ .f32}
    (h : Holds m x w) (hf : Pre_KernelIdeal_finite_KernelIdeal m) (c : Dev Cert.KernelIdeal.nD) (r : Fin 256) (j : Fin 8192) :
    OUT m c (ix2 r j) = Ref.out x w (ix2 r j) := by
  choose l hl using logit_real h hf r
  have e : ∀ k : Fin 8192, Ref.logits x w (ix2 r k) = logit x w r k := Ref.logits_at x w r
  rw [OUT_at h c r j, Ref.out_at x w r j l fun k => (e k).trans (hl k), e, Finset.sum_congr rfl fun k _ => congrArg Ideal.exp (e k)]

theorem OUT_eq_out {m : (ℓ : Loc Cert.KernelIdeal.nD Cert.KernelIdeal.τ Cert.KernelIdeal.sig) → Buf (Elt Ideal) ℓ}
    {x : FVec Ideal ⟨2, ![256, 512]⟩ .f32} {w : FVec Ideal ⟨2, ![512, 8192]⟩ .f32}
    (h : Holds m x w) (hf : Pre_KernelIdeal_finite_KernelIdeal m) (c : Dev Cert.KernelIdeal.nD) : OUT m c = Ref.out x w :=
  funext fun i => (congrArg (OUT m c) (eq_ix2 i)).trans
    ((OUT_at_eq_out h hf c (i 0) (i 1)).trans (congrArg (Ref.out x w) (eq_ix2 i)).symm)

theorem algebraic : Cert.algebraic_KernelIdeal_ReferenceIdeal_pre_finite_KernelIdeal := fun m ρ m' ρ' hf hagree =>
  ⟨Ref.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (OUT_eq_out hagree hf c), (h.1 c).2⟩) (Cert.SoftmaxProof.run (F := Ideal) m ρ),
    (θ_run Cert.ReferenceIdeal.defs _ _).mono (fun _ h => h.1 0) (Ref.run m' ρ')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, frame_ideal_finite, frame_reference, frame_reference_finite, trivial, algebraic⟩

end Cert.Proof

end
